-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_weights [hPre_finite_weights : Cert.Pre_finite_weights.Facts] (m : (ℓ : Loc Cert.KernelIdeal.nD Cert.KernelIdeal.τ Cert.KernelIdeal.sig) → Buf (Elt Ideal) ℓ) : Prop :=
  ∀ c : Dev Cert.KernelIdeal.nD,
    (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_weights [hPre_finite_weights : Cert.Pre_finite_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_weights [hKernelIdeal : Cert.KernelIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_weights m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_weights [hReferenceIdeal : Cert.ReferenceIdeal.Facts] [hPre_finite_weights : Cert.Pre_finite_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_weights [hKernelIdeal : Cert.KernelIdeal.Facts] [hReferenceIdeal : Cert.ReferenceIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_weights : Cert.Pre_finite_weights.Facts),
    quiescent_Kernel (hKernel := hKernel)
    ∧ quiescent_KernelIdeal (hKernelIdeal := hKernelIdeal)
    ∧ quiescent_KernelIdeal_pre_finite_weights (hKernelIdeal := hKernelIdeal) (hPre_finite_weights := hPre_finite_weights)
    ∧ quiescent_ReferenceIdeal (hReferenceIdeal := hReferenceIdeal)
    ∧ quiescent_ReferenceIdeal_pre_finite_weights (hReferenceIdeal := hReferenceIdeal) (hPre_finite_weights := hPre_finite_weights)
    ∧ preserves_Kernel_KernelIdeal
    ∧ algebraic_KernelIdeal_ReferenceIdeal_pre_finite_weights (hKernelIdeal := hKernelIdeal) (hReferenceIdeal := hReferenceIdeal) (hPre_finite_weights := hPre_finite_weights)
-- ==== Pre_finite_weights.lean ====
abbrev S16x20000x128 : Shape := ⟨3, ![16, 20000, 128]⟩
abbrev S8x64x128 : Shape := ⟨3, ![8, 64, 128]⟩
abbrev S_ : Shape := ⟨0, ![]⟩

class Facts : Prop where
  bcast_S_S8x64x128 : S_.BroadcastsInDim S8x64x128 (![] : Fin 0 → Fin S8x64x128.rank)
  reducesTo_S8x64x128_S_d0_1_2 : S8x64x128.ReducesTo [0, 1, 2] S_
  h_S_ : 0 < S_.numel

variable [Facts]

def fn {F : FTy → Type} [FloatOps F] (main_arg0 : FVec F S16x20000x128 .f32) (main_arg1 : FVec F S8x64x128 .f32) : IVec S_ 1 :=
  let main_v0 : FVec F S8x64x128 .f32 := Host.absf main_arg1
  let main_cst : FVec F S_ .f32 := constant S_ .f32 0x7F800000#32
  let main_v1 : FVec F S8x64x128 .f32 := broadcastInDim S8x64x128 ![] bcast_S_S8x64x128 main_cst
  let main_v2 : IVec S8x64x128 1 := cmpf .olt main_v0 main_v1
  let main_c : IVec S_ 1 := constantI S_ 1 1#1
  let main_v3 : IVec S_ 1 := (fun x v => Host.reduce IntOp.andi x v reducesTo_S8x64x128_S_d0_1_2 h_S_) main_v2 main_c
  main_v3
-- ==== Kernel.lean ====
abbrev S16x20000x128 : Shape := ⟨3, ![16, 20000, 128]⟩
abbrev S8x64x128 : Shape := ⟨3, ![8, 64, 128]⟩
abbrev S16x8x128 : Shape := ⟨3, ![16, 8, 128]⟩
abbrev S64x64 : Shape := ⟨2, ![64, 64]⟩
abbrev S8x64x64 : Shape := ⟨3, ![8, 64, 64]⟩
abbrev S8x64 : Shape := ⟨2, ![8, 64]⟩
abbrev S9x64 : Shape := ⟨2, ![9, 64]⟩
abbrev S_ : Shape := ⟨0, ![]⟩
abbrev S1x64x64 : Shape := ⟨3, ![1, 64, 64]⟩
abbrev S8x32x64 : Shape := ⟨3, ![8, 32, 64]⟩
abbrev S16 : Shape := ⟨1, ![16]⟩
abbrev S1x16 : Shape := ⟨2, ![1, 16]⟩
abbrev S1x1x16 : Shape := ⟨3, ![1, 1, 16]⟩
abbrev S8x1x64 : Shape := ⟨3, ![8, 1, 64]⟩

abbrev nBuf : Table → Nat
  | .hbm => 3
  | .local .scVector .vmem => 4
  | _ => 0

abbrev bufTy : (tb : Table) → Fin (nBuf tb) → BufTy
  | .hbm, ⟨0, _⟩ => ⟨S16x20000x128, .f32⟩
  | .hbm, ⟨1, _⟩ => ⟨S8x64x128, .f32⟩
  | .hbm, ⟨2, _⟩ => ⟨S16x8x128, .f32⟩
  | .local .scVector .vmem, ⟨0, _⟩ => ⟨S64x64, .f32⟩
  | .local .scVector .vmem, ⟨1, _⟩ => ⟨S8x64x64, .f32⟩
  | .local .scVector .vmem, ⟨2, _⟩ => ⟨S8x64, .f32⟩
  | .local .scVector .vmem, ⟨3, _⟩ => ⟨S9x64, .f32⟩
  | _, _ => ⟨S16x20000x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_23 : BitVec 32 := 0#32
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c8_i32_3 : BitVec 32 := 8#32
  let c0_i32_6 : BitVec 32 := 0#32
  let v18 : BitVec 1 := Scalar.cmpi .sgt c8_i32_3 c0_i32_6
  let v19 : BitVec 32 := Scalar.extui v18
  let c0_i32_7 : BitVec 32 := 0#32
  let v20 : BitVec 1 := Scalar.cmpi .slt c8_i32_3 c0_i32_7
  let v21 : BitVec 32 := Scalar.extui v20
  let v22 : BitVec 32 := Scalar.subi v19 v21
  let v23 : BitVec 1 := Scalar.cmpi .ne v17 v22
  let v24 : BitVec 32 := Scalar.remsi v1 c8_i32_3
  let c0_i32_8 : BitVec 32 := 0#32
  let v25 : BitVec 1 := Scalar.cmpi .ne v24 c0_i32_8
  let v26 : BitVec 1 := Scalar.andi v23 v25
  let v12 : BitVec 32 := Scalar.divsi v1 c8_i32_3
  let c1_i32_9 : BitVec 32 := 1#32
  let v27 : BitVec 32 := Scalar.subi v12 c1_i32_9
  let v28 : BitVec 32 := Scalar.select v26 v27 v12
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let c64_i32 : BitVec 32 := 64#32
  let v57 : BitVec 32 := Scalar.muli v38 c64_i32
  ![v11.toNat, 0, v57.toNat]
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_16 : BitVec 32 := 0#32
  let v40 : BitVec 1 := Scalar.cmpi .sgt v1 c0_i32_16
  let v41 : BitVec 32 := Scalar.extui v40
  let c0_i32_17 : BitVec 32 := 0#32
  let v42 : BitVec 1 := Scalar.cmpi .slt v1 c0_i32_17
  let v43 : BitVec 32 := Scalar.extui v42
  let v44 : BitVec 32 := Scalar.subi v41 v43
  let c16_i32 : BitVec 32 := 16#32
  let c0_i32_18 : BitVec 32 := 0#32
  let v45 : BitVec 1 := Scalar.cmpi .sgt c16_i32 c0_i32_18
  let v46 : BitVec 32 := Scalar.extui v45
  let c0_i32_19 : BitVec 32 := 0#32
  let v47 : BitVec 1 := Scalar.cmpi .slt c16_i32 c0_i32_19
  let v48 : BitVec 32 := Scalar.extui v47
  let v49 : BitVec 32 := Scalar.subi v46 v48
  let v50 : BitVec 1 := Scalar.cmpi .ne v44 v49
  let v51 : BitVec 32 := Scalar.remsi v1 c16_i32
  let c0_i32_20 : BitVec 32 := 0#32
  let v52 : BitVec 1 := Scalar.cmpi .ne v51 c0_i32_20
  let v53 : BitVec 1 := Scalar.andi v50 v52
  let v39 : BitVec 32 := Scalar.divsi v1 c16_i32
  let c1_i32_21 : BitVec 32 := 1#32
  let v54 : BitVec 32 := Scalar.subi v39 c1_i32_21
  let v55 : BitVec 32 := Scalar.select v53 v54 v39
  let c8_i32_22 : BitVec 32 := 8#32
  let v56 : BitVec 32 := Scalar.muli v55 c8_i32_22
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c100_i32 : BitVec 32 := 100#32
  let v58 : BitVec 32 := Scalar.muli v11 c100_i32
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c8_i32_3 : BitVec 32 := 8#32
  let c0_i32_6 : BitVec 32 := 0#32
  let v18 : BitVec 1 := Scalar.cmpi .sgt c8_i32_3 c0_i32_6
  let v19 : BitVec 32 := Scalar.extui v18
  let c0_i32_7 : BitVec 32 := 0#32
  let v20 : BitVec 1 := Scalar.cmpi .slt c8_i32_3 c0_i32_7
  let v21 : BitVec 32 := Scalar.extui v20
  let v22 : BitVec 32 := Scalar.subi v19 v21
  let v23 : BitVec 1 := Scalar.cmpi .ne v17 v22
  let v24 : BitVec 32 := Scalar.remsi v1 c8_i32_3
  let c0_i32_8 : BitVec 32 := 0#32
  let v25 : BitVec 1 := Scalar.cmpi .ne v24 c0_i32_8
  let v26 : BitVec 1 := Scalar.andi v23 v25
  let v12 : BitVec 32 := Scalar.divsi v1 c8_i32_3
  let c1_i32_9 : BitVec 32 := 1#32
  let v27 : BitVec 32 := Scalar.subi v12 c1_i32_9
  let v28 : BitVec 32 := Scalar.select v26 v27 v12
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let c64_i32 : BitVec 32 := 64#32
  let v57 : BitVec 32 := Scalar.muli v38 c64_i32
  ![v56.toNat, v58.toNat, v57.toNat]
def k0_off3 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_16 : BitVec 32 := 0#32
  let v40 : BitVec 1 := Scalar.cmpi .sgt v1 c0_i32_16
  let v41 : BitVec 32 := Scalar.extui v40
  let c0_i32_17 : BitVec 32 := 0#32
  let v42 : BitVec 1 := Scalar.cmpi .slt v1 c0_i32_17
  let v43 : BitVec 32 := Scalar.extui v42
  let v44 : BitVec 32 := Scalar.subi v41 v43
  let c16_i32 : BitVec 32 := 16#32
  let c0_i32_18 : BitVec 32 := 0#32
  let v45 : BitVec 1 := Scalar.cmpi .sgt c16_i32 c0_i32_18
  let v46 : BitVec 32 := Scalar.extui v45
  let c0_i32_19 : BitVec 32 := 0#32
  let v47 : BitVec 1 := Scalar.cmpi .slt c16_i32 c0_i32_19
  let v48 : BitVec 32 := Scalar.extui v47
  let v49 : BitVec 32 := Scalar.subi v46 v48
  let v50 : BitVec 1 := Scalar.cmpi .ne v44 v49
  let v51 : BitVec 32 := Scalar.remsi v1 c16_i32
  let c0_i32_20 : BitVec 32 := 0#32
  let v52 : BitVec 1 := Scalar.cmpi .ne v51 c0_i32_20
  let v53 : BitVec 1 := Scalar.andi v50 v52
  let v39 : BitVec 32 := Scalar.divsi v1 c16_i32
  let c1_i32_21 : BitVec 32 := 1#32
  let v54 : BitVec 32 := Scalar.subi v39 c1_i32_21
  let v55 : BitVec 32 := Scalar.select v53 v54 v39
  let c8_i32_22 : BitVec 32 := 8#32
  let v56 : BitVec 32 := Scalar.muli v55 c8_i32_22
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c100_i32 : BitVec 32 := 100#32
  let v58 : BitVec 32 := Scalar.muli v11 c100_i32
  let c32_i32 : BitVec 32 := 32#32
  let v67 : BitVec 32 := Scalar.addi v58 c32_i32
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c8_i32_3 : BitVec 32 := 8#32
  let c0_i32_6 : BitVec 32 := 0#32
  let v18 : BitVec 1 := Scalar.cmpi .sgt c8_i32_3 c0_i32_6
  let v19 : BitVec 32 := Scalar.extui v18
  let c0_i32_7 : BitVec 32 := 0#32
  let v20 : BitVec 1 := Scalar.cmpi .slt c8_i32_3 c0_i32_7
  let v21 : BitVec 32 := Scalar.extui v20
  let v22 : BitVec 32 := Scalar.subi v19 v21
  let v23 : BitVec 1 := Scalar.cmpi .ne v17 v22
  let v24 : BitVec 32 := Scalar.remsi v1 c8_i32_3
  let c0_i32_8 : BitVec 32 := 0#32
  let v25 : BitVec 1 := Scalar.cmpi .ne v24 c0_i32_8
  let v26 : BitVec 1 := Scalar.andi v23 v25
  let v12 : BitVec 32 := Scalar.divsi v1 c8_i32_3
  let c1_i32_9 : BitVec 32 := 1#32
  let v27 : BitVec 32 := Scalar.subi v12 c1_i32_9
  let v28 : BitVec 32 := Scalar.select v26 v27 v12
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let c64_i32 : BitVec 32 := 64#32
  let v57 : BitVec 32 := Scalar.muli v38 c64_i32
  ![v56.toNat, v67.toNat, v57.toNat]
@[reducible] def k0_t1_loop : Scf.Loop 32 :=
  let c0_i32_46 : BitVec 32 := 0#32
  let c4_i32 : BitVec 32 := 4#32
  let v80 : BitVec 32 := Scalar.addi c0_i32_46 c4_i32
  let c1_i32_47 : BitVec 32 := 1#32
  ⟨c0_i32_46, v80, c1_i32_47⟩
@[reducible] def k0_t2_loop : Scf.Loop 32 :=
  let c0_i32_61 : BitVec 32 := 0#32
  let c4_i32_62 : BitVec 32 := 4#32
  let v98 : BitVec 32 := Scalar.addi c0_i32_61 c4_i32_62
  let c1_i32_63 : BitVec 32 := 1#32
  ⟨c0_i32_61, v98, c1_i32_63⟩
def k0_off4 (k0_t1 : Fin k0_t1_loop.trips) (k0_t2 : Fin k0_t2_loop.trips) (c0_i32_73 : BitVec 32) : Fin 2 → Nat :=
  let c0_i32_72 : BitVec 32 := 0#32
  let c0_i32_61 : BitVec 32 := 0#32
  let c1_i32_63 : BitVec 32 := 1#32
  let arg15 : BitVec 32 := Scf.iv c0_i32_61 c1_i32_63 k0_t2
  let c8_i32_71 : BitVec 32 := 8#32
  let v145 : BitVec 32 := Scalar.muli arg15 c8_i32_71
  let v146 : BitVec 32 := Scalar.addi c0_i32_72 v145
  let v147 : BitVec 32 := Scalar.addi v146 c0_i32_73
  let v148 : Index := Scalar.indexCast v147
  let c0_i32_46 : BitVec 32 := 0#32
  let c1_i32_47 : BitVec 32 := 1#32
  let arg13 : BitVec 32 := Scf.iv c0_i32_46 c1_i32_47 k0_t1
  let c16_i32_60 : BitVec 32 := 16#32
  let v96 : BitVec 32 := Scalar.muli arg13 c16_i32_60
  let v149 : Index := Scalar.indexCast v96
  ![v148.toNat, v149.toNat]
def k0_off5 (k0_t1 : Fin k0_t1_loop.trips) (k0_t2 : Fin k0_t2_loop.trips) (c0_i32_73 : BitVec 32) : Fin 3 → Nat :=
  let c0_i32_74 : BitVec 32 := 0#32
  let v154 : Index := Scalar.indexCast c0_i32_74
  let c0_i32_72 : BitVec 32 := 0#32
  let c0_i32_61 : BitVec 32 := 0#32
  let c1_i32_63 : BitVec 32 := 1#32
  let arg15 : BitVec 32 := Scf.iv c0_i32_61 c1_i32_63 k0_t2
  let c8_i32_71 : BitVec 32 := 8#32
  let v145 : BitVec 32 := Scalar.muli arg15 c8_i32_71
  let v146 : BitVec 32 := Scalar.addi c0_i32_72 v145
  let v147 : BitVec 32 := Scalar.addi v146 c0_i32_73
  let v155 : Index := Scalar.indexCast v147
  let c0_i32_46 : BitVec 32 := 0#32
  let c1_i32_47 : BitVec 32 := 1#32
  let arg13 : BitVec 32 := Scf.iv c0_i32_46 c1_i32_47 k0_t1
  let c16_i32_60 : BitVec 32 := 16#32
  let v96 : BitVec 32 := Scalar.muli arg13 c16_i32_60
  let v156 : Index := Scalar.indexCast v96
  ![0, v155.toNat, v156.toNat]
def k0_off6 (k0_t1 : Fin k0_t1_loop.trips) (k0_t2 : Fin k0_t2_loop.trips) (c0_i32_73 : BitVec 32) : Fin 3 → Nat :=
  let c1_i32_75 : BitVec 32 := 1#32
  let v161 : Index := Scalar.indexCast c1_i32_75
  let c0_i32_72 : BitVec 32 := 0#32
  let c0_i32_61 : BitVec 32 := 0#32
  let c1_i32_63 : BitVec 32 := 1#32
  let arg15 : BitVec 32 := Scf.iv c0_i32_61 c1_i32_63 k0_t2
  let c8_i32_71 : BitVec 32 := 8#32
  let v145 : BitVec 32 := Scalar.muli arg15 c8_i32_71
  let v146 : BitVec 32 := Scalar.addi c0_i32_72 v145
  let v147 : BitVec 32 := Scalar.addi v146 c0_i32_73
  let v162 : Index := Scalar.indexCast v147
  let c0_i32_46 : BitVec 32 := 0#32
  let c1_i32_47 : BitVec 32 := 1#32
  let arg13 : BitVec 32 := Scf.iv c0_i32_46 c1_i32_47 k0_t1
  let c16_i32_60 : BitVec 32 := 16#32
  let v96 : BitVec 32 := Scalar.muli arg13 c16_i32_60
  let v163 : Index := Scalar.indexCast v96
  ![1, v162.toNat, v163.toNat]
def k0_off7 (k0_t1 : Fin k0_t1_loop.trips) (k0_t2 : Fin k0_t2_loop.trips) (c0_i32_73 : BitVec 32) : Fin 3 → Nat :=
  let c2_i32_76 : BitVec 32 := 2#32
  let v168 : Index := Scalar.indexCast c2_i32_76
  let c0_i32_72 : BitVec 32 := 0#32
  let c0_i32_61 : BitVec 32 := 0#32
  let c1_i32_63 : BitVec 32 := 1#32
  let arg15 : BitVec 32 := Scf.iv c0_i32_61 c1_i32_63 k0_t2
  let c8_i32_71 : BitVec 32 := 8#32
  let v145 : BitVec 32 := Scalar.muli arg15 c8_i32_71
  let v146 : BitVec 32 := Scalar.addi c0_i32_72 v145
  let v147 : BitVec 32 := Scalar.addi v146 c0_i32_73
  let v169 : Index := Scalar.indexCast v147
  let c0_i32_46 : BitVec 32 := 0#32
  let c1_i32_47 : BitVec 32 := 1#32
  let arg13 : BitVec 32 := Scf.iv c0_i32_46 c1_i32_47 k0_t1
  let c16_i32_60 : BitVec 32 := 16#32
  let v96 : BitVec 32 := Scalar.muli arg13 c16_i32_60
  let v170 : Index := Scalar.indexCast v96
  ![2, v169.toNat, v170.toNat]
def k0_off8 (k0_t1 : Fin k0_t1_loop.trips) (k0_t2 : Fin k0_t2_loop.trips) (c0_i32_73 : BitVec 32) : Fin 3 → Nat :=
  let c3_i32_77 : BitVec 32 := 3#32
  let v175 : Index := Scalar.indexCast c3_i32_77
  let c0_i32_72 : BitVec 32 := 0#32
  let c0_i32_61 : BitVec 32 := 0#32
  let c1_i32_63 : BitVec 32 := 1#32
  let arg15 : BitVec 32 := Scf.iv c0_i32_61 c1_i32_63 k0_t2
  let c8_i32_71 : BitVec 32 := 8#32
  let v145 : BitVec 32 := Scalar.muli arg15 c8_i32_71
  let v146 : BitVec 32 := Scalar.addi c0_i32_72 v145
  let v147 : BitVec 32 := Scalar.addi v146 c0_i32_73
  let v176 : Index := Scalar.indexCast v147
  let c0_i32_46 : BitVec 32 := 0#32
  let c1_i32_47 : BitVec 32 := 1#32
  let arg13 : BitVec 32 := Scf.iv c0_i32_46 c1_i32_47 k0_t1
  let c16_i32_60 : BitVec 32 := 16#32
  let v96 : BitVec 32 := Scalar.muli arg13 c16_i32_60
  let v177 : Index := Scalar.indexCast v96
  ![3, v176.toNat, v177.toNat]
def k0_off9 (k0_t1 : Fin k0_t1_loop.trips) (k0_t2 : Fin k0_t2_loop.trips) (c0_i32_73 : BitVec 32) : Fin 3 → Nat :=
  let c4_i32_78 : BitVec 32 := 4#32
  let v182 : Index := Scalar.indexCast c4_i32_78
  let c0_i32_72 : BitVec 32 := 0#32
  let c0_i32_61 : BitVec 32 := 0#32
  let c1_i32_63 : BitVec 32 := 1#32
  let arg15 : BitVec 32 := Scf.iv c0_i32_61 c1_i32_63 k0_t2
  let c8_i32_71 : BitVec 32 := 8#32
  let v145 : BitVec 32 := Scalar.muli arg15 c8_i32_71
  let v146 : BitVec 32 := Scalar.addi c0_i32_72 v145
  let v147 : BitVec 32 := Scalar.addi v146 c0_i32_73
  let v183 : Index := Scalar.indexCast v147
  let c0_i32_46 : BitVec 32 := 0#32
  let c1_i32_47 : BitVec 32 := 1#32
  let arg13 : BitVec 32 := Scf.iv c0_i32_46 c1_i32_47 k0_t1
  let c16_i32_60 : BitVec 32 := 16#32
  let v96 : BitVec 32 := Scalar.muli arg13 c16_i32_60
  let v184 : Index := Scalar.indexCast v96
  ![4, v183.toNat, v184.toNat]
def k0_off10 (k0_t1 : Fin k0_t1_loop.trips) (k0_t2 : Fin k0_t2_loop.trips) (c0_i32_73 : BitVec 32) : Fin 3 → Nat :=
  let c5_i32_79 : BitVec 32 := 5#32
  let v189 : Index := Scalar.indexCast c5_i32_79
  let c0_i32_72 : BitVec 32 := 0#32
  let c0_i32_61 : BitVec 32 := 0#32
  let c1_i32_63 : BitVec 32 := 1#32
  let arg15 : BitVec 32 := Scf.iv c0_i32_61 c1_i32_63 k0_t2
  let c8_i32_71 : BitVec 32 := 8#32
  let v145 : BitVec 32 := Scalar.muli arg15 c8_i32_71
  let v146 : BitVec 32 := Scalar.addi c0_i32_72 v145
  let v147 : BitVec 32 := Scalar.addi v146 c0_i32_73
  let v190 : Index := Scalar.indexCast v147
  let c0_i32_46 : BitVec 32 := 0#32
  let c1_i32_47 : BitVec 32 := 1#32
  let arg13 : BitVec 32 := Scf.iv c0_i32_46 c1_i32_47 k0_t1
  let c16_i32_60 : BitVec 32 := 16#32
  let v96 : BitVec 32 := Scalar.muli arg13 c16_i32_60
  let v191 : Index := Scalar.indexCast v96
  ![5, v190.toNat, v191.toNat]
def k0_off11 (k0_t1 : Fin k0_t1_loop.trips) (k0_t2 : Fin k0_t2_loop.trips) (c0_i32_73 : BitVec 32) : Fin 3 → Nat :=
  let c6_i32_80 : BitVec 32 := 6#32
  let v196 : Index := Scalar.indexCast c6_i32_80
  let c0_i32_72 : BitVec 32 := 0#32
  let c0_i32_61 : BitVec 32 := 0#32
  let c1_i32_63 : BitVec 32 := 1#32
  let arg15 : BitVec 32 := Scf.iv c0_i32_61 c1_i32_63 k0_t2
  let c8_i32_71 : BitVec 32 := 8#32
  let v145 : BitVec 32 := Scalar.muli arg15 c8_i32_71
  let v146 : BitVec 32 := Scalar.addi c0_i32_72 v145
  let v147 : BitVec 32 := Scalar.addi v146 c0_i32_73
  let v197 : Index := Scalar.indexCast v147
  let c0_i32_46 : BitVec 32 := 0#32
  let c1_i32_47 : BitVec 32 := 1#32
  let arg13 : BitVec 32 := Scf.iv c0_i32_46 c1_i32_47 k0_t1
  let c16_i32_60 : BitVec 32 := 16#32
  let v96 : BitVec 32 := Scalar.muli arg13 c16_i32_60
  let v198 : Index := Scalar.indexCast v96
  ![6, v197.toNat, v198.toNat]
def k0_off12 (k0_t1 : Fin k0_t1_loop.trips) (k0_t2 : Fin k0_t2_loop.trips) (c0_i32_73 : BitVec 32) : Fin 3 → Nat :=
  let c7_i32_81 : BitVec 32 := 7#32
  let v203 : Index := Scalar.indexCast c7_i32_81
  let c0_i32_72 : BitVec 32 := 0#32
  let c0_i32_61 : BitVec 32 := 0#32
  let c1_i32_63 : BitVec 32 := 1#32
  let arg15 : BitVec 32 := Scf.iv c0_i32_61 c1_i32_63 k0_t2
  let c8_i32_71 : BitVec 32 := 8#32
  let v145 : BitVec 32 := Scalar.muli arg15 c8_i32_71
  let v146 : BitVec 32 := Scalar.addi c0_i32_72 v145
  let v147 : BitVec 32 := Scalar.addi v146 c0_i32_73
  let v204 : Index := Scalar.indexCast v147
  let c0_i32_46 : BitVec 32 := 0#32
  let c1_i32_47 : BitVec 32 := 1#32
  let arg13 : BitVec 32 := Scf.iv c0_i32_46 c1_i32_47 k0_t1
  let c16_i32_60 : BitVec 32 := 16#32
  let v96 : BitVec 32 := Scalar.muli arg13 c16_i32_60
  let v205 : Index := Scalar.indexCast v96
  ![7, v204.toNat, v205.toNat]
def k0_off13 (k0_t1 : Fin k0_t1_loop.trips) : Fin 2 → Nat :=
  let c0_i32_65 : BitVec 32 := 0#32
  let v100 : Index := Scalar.indexCast c0_i32_65
  let c0_i32_46 : BitVec 32 := 0#32
  let c1_i32_47 : BitVec 32 := 1#32
  let arg13 : BitVec 32 := Scf.iv c0_i32_46 c1_i32_47 k0_t1
  let c16_i32_60 : BitVec 32 := 16#32
  let v96 : BitVec 32 := Scalar.muli arg13 c16_i32_60
  let v101 : Index := Scalar.indexCast v96
  ![0, v101.toNat]
def k0_off14 (k0_t1 : Fin k0_t1_loop.trips) : Fin 2 → Nat :=
  let c1_i32_66 : BitVec 32 := 1#32
  let v105 : Index := Scalar.indexCast c1_i32_66
  let c0_i32_46 : BitVec 32 := 0#32
  let c1_i32_47 : BitVec 32 := 1#32
  let arg13 : BitVec 32 := Scf.iv c0_i32_46 c1_i32_47 k0_t1
  let c16_i32_60 : BitVec 32 := 16#32
  let v96 : BitVec 32 := Scalar.muli arg13 c16_i32_60
  let v106 : Index := Scalar.indexCast v96
  ![1, v106.toNat]
def k0_off15 (k0_t1 : Fin k0_t1_loop.trips) : Fin 2 → Nat :=
  let c2_i32_67 : BitVec 32 := 2#32
  let v110 : Index := Scalar.indexCast c2_i32_67
  let c0_i32_46 : BitVec 32 := 0#32
  let c1_i32_47 : BitVec 32 := 1#32
  let arg13 : BitVec 32 := Scf.iv c0_i32_46 c1_i32_47 k0_t1
  let c16_i32_60 : BitVec 32 := 16#32
  let v96 : BitVec 32 := Scalar.muli arg13 c16_i32_60
  let v111 : Index := Scalar.indexCast v96
  ![2, v111.toNat]
def k0_off16 (k0_t1 : Fin k0_t1_loop.trips) : Fin 2 → Nat :=
  let c3_i32 : BitVec 32 := 3#32
  let v115 : Index := Scalar.indexCast c3_i32
  let c0_i32_46 : BitVec 32 := 0#32
  let c1_i32_47 : BitVec 32 := 1#32
  let arg13 : BitVec 32 := Scf.iv c0_i32_46 c1_i32_47 k0_t1
  let c16_i32_60 : BitVec 32 := 16#32
  let v96 : BitVec 32 := Scalar.muli arg13 c16_i32_60
  let v116 : Index := Scalar.indexCast v96
  ![3, v116.toNat]
def k0_off17 (k0_t1 : Fin k0_t1_loop.trips) : Fin 2 → Nat :=
  let c4_i32_68 : BitVec 32 := 4#32
  let v120 : Index := Scalar.indexCast c4_i32_68
  let c0_i32_46 : BitVec 32 := 0#32
  let c1_i32_47 : BitVec 32 := 1#32
  let arg13 : BitVec 32 := Scf.iv c0_i32_46 c1_i32_47 k0_t1
  let c16_i32_60 : BitVec 32 := 16#32
  let v96 : BitVec 32 := Scalar.muli arg13 c16_i32_60
  let v121 : Index := Scalar.indexCast v96
  ![4, v121.toNat]
def k0_off18 (k0_t1 : Fin k0_t1_loop.trips) : Fin 2 → Nat :=
  let c5_i32 : BitVec 32 := 5#32
  let v125 : Index := Scalar.indexCast c5_i32
  let c0_i32_46 : BitVec 32 := 0#32
  let c1_i32_47 : BitVec 32 := 1#32
  let arg13 : BitVec 32 := Scf.iv c0_i32_46 c1_i32_47 k0_t1
  let c16_i32_60 : BitVec 32 := 16#32
  let v96 : BitVec 32 := Scalar.muli arg13 c16_i32_60
  let v126 : Index := Scalar.indexCast v96
  ![5, v126.toNat]
def k0_off19 (k0_t1 : Fin k0_t1_loop.trips) : Fin 2 → Nat :=
  let c6_i32 : BitVec 32 := 6#32
  let v130 : Index := Scalar.indexCast c6_i32
  let c0_i32_46 : BitVec 32 := 0#32
  let c1_i32_47 : BitVec 32 := 1#32
  let arg13 : BitVec 32 := Scf.iv c0_i32_46 c1_i32_47 k0_t1
  let c16_i32_60 : BitVec 32 := 16#32
  let v96 : BitVec 32 := Scalar.muli arg13 c16_i32_60
  let v131 : Index := Scalar.indexCast v96
  ![6, v131.toNat]
def k0_off20 (k0_t1 : Fin k0_t1_loop.trips) : Fin 2 → Nat :=
  let c7_i32 : BitVec 32 := 7#32
  let v135 : Index := Scalar.indexCast c7_i32
  let c0_i32_46 : BitVec 32 := 0#32
  let c1_i32_47 : BitVec 32 := 1#32
  let arg13 : BitVec 32 := Scf.iv c0_i32_46 c1_i32_47 k0_t1
  let c16_i32_60 : BitVec 32 := 16#32
  let v96 : BitVec 32 := Scalar.muli arg13 c16_i32_60
  let v136 : Index := Scalar.indexCast v96
  ![7, v136.toNat]
def k0_off21 (k0_t1 : Fin k0_t1_loop.trips) : Fin 2 → Nat :=
  let c8_i32_69 : BitVec 32 := 8#32
  let v140 : Index := Scalar.indexCast c8_i32_69
  let c0_i32_46 : BitVec 32 := 0#32
  let c1_i32_47 : BitVec 32 := 1#32
  let arg13 : BitVec 32 := Scf.iv c0_i32_46 c1_i32_47 k0_t1
  let c16_i32_60 : BitVec 32 := 16#32
  let v96 : BitVec 32 := Scalar.muli arg13 c16_i32_60
  let v141 : Index := Scalar.indexCast v96
  ![8, v141.toNat]
@[reducible] def k0_t3_loop : Scf.Loop 32 :=
  let c0_i32_56 : BitVec 32 := 0#32
  let c4_i32_57 : BitVec 32 := 4#32
  let v86 : BitVec 32 := Scalar.addi c0_i32_56 c4_i32_57
  let c1_i32_58 : BitVec 32 := 1#32
  ⟨c0_i32_56, v86, c1_i32_58⟩
def k0_off22 (k0_t3 : Fin k0_t3_loop.trips) : Fin 2 → Nat :=
  let c0_i32_61 : BitVec 32 := 0#32
  let v97 : Index := Scalar.indexCast c0_i32_61
  let c0_i32_56 : BitVec 32 := 0#32
  let c1_i32_58 : BitVec 32 := 1#32
  let arg13 : BitVec 32 := Scf.iv c0_i32_56 c1_i32_58 k0_t3
  let c16_i32_60 : BitVec 32 := 16#32
  let v96 : BitVec 32 := Scalar.muli arg13 c16_i32_60
  let v98 : Index := Scalar.indexCast v96
  ![0, v98.toNat]
def k0_off23 (k0_t3 : Fin k0_t3_loop.trips) : Fin 2 → Nat :=
  let c1_i32_62 : BitVec 32 := 1#32
  let v101 : Index := Scalar.indexCast c1_i32_62
  let c0_i32_56 : BitVec 32 := 0#32
  let c1_i32_58 : BitVec 32 := 1#32
  let arg13 : BitVec 32 := Scf.iv c0_i32_56 c1_i32_58 k0_t3
  let c16_i32_60 : BitVec 32 := 16#32
  let v96 : BitVec 32 := Scalar.muli arg13 c16_i32_60
  let v102 : Index := Scalar.indexCast v96
  ![1, v102.toNat]
def k0_off24 (k0_t3 : Fin k0_t3_loop.trips) : Fin 2 → Nat :=
  let c2_i32_63 : BitVec 32 := 2#32
  let v105 : Index := Scalar.indexCast c2_i32_63
  let c0_i32_56 : BitVec 32 := 0#32
  let c1_i32_58 : BitVec 32 := 1#32
  let arg13 : BitVec 32 := Scf.iv c0_i32_56 c1_i32_58 k0_t3
  let c16_i32_60 : BitVec 32 := 16#32
  let v96 : BitVec 32 := Scalar.muli arg13 c16_i32_60
  let v106 : Index := Scalar.indexCast v96
  ![2, v106.toNat]
def k0_off25 (k0_t3 : Fin k0_t3_loop.trips) : Fin 2 → Nat :=
  let c3_i32 : BitVec 32 := 3#32
  let v109 : Index := Scalar.indexCast c3_i32
  let c0_i32_56 : BitVec 32 := 0#32
  let c1_i32_58 : BitVec 32 := 1#32
  let arg13 : BitVec 32 := Scf.iv c0_i32_56 c1_i32_58 k0_t3
  let c16_i32_60 : BitVec 32 := 16#32
  let v96 : BitVec 32 := Scalar.muli arg13 c16_i32_60
  let v110 : Index := Scalar.indexCast v96
  ![3, v110.toNat]
def k0_off26 (k0_t3 : Fin k0_t3_loop.trips) : Fin 2 → Nat :=
  let c4_i32_64 : BitVec 32 := 4#32
  let v113 : Index := Scalar.indexCast c4_i32_64
  let c0_i32_56 : BitVec 32 := 0#32
  let c1_i32_58 : BitVec 32 := 1#32
  let arg13 : BitVec 32 := Scf.iv c0_i32_56 c1_i32_58 k0_t3
  let c16_i32_60 : BitVec 32 := 16#32
  let v96 : BitVec 32 := Scalar.muli arg13 c16_i32_60
  let v114 : Index := Scalar.indexCast v96
  ![4, v114.toNat]
def k0_off27 (k0_t3 : Fin k0_t3_loop.trips) : Fin 2 → Nat :=
  let c5_i32 : BitVec 32 := 5#32
  let v117 : Index := Scalar.indexCast c5_i32
  let c0_i32_56 : BitVec 32 := 0#32
  let c1_i32_58 : BitVec 32 := 1#32
  let arg13 : BitVec 32 := Scf.iv c0_i32_56 c1_i32_58 k0_t3
  let c16_i32_60 : BitVec 32 := 16#32
  let v96 : BitVec 32 := Scalar.muli arg13 c16_i32_60
  let v118 : Index := Scalar.indexCast v96
  ![5, v118.toNat]
def k0_off28 (k0_t3 : Fin k0_t3_loop.trips) : Fin 2 → Nat :=
  let c6_i32 : BitVec 32 := 6#32
  let v121 : Index := Scalar.indexCast c6_i32
  let c0_i32_56 : BitVec 32 := 0#32
  let c1_i32_58 : BitVec 32 := 1#32
  let arg13 : BitVec 32 := Scf.iv c0_i32_56 c1_i32_58 k0_t3
  let c16_i32_60 : BitVec 32 := 16#32
  let v96 : BitVec 32 := Scalar.muli arg13 c16_i32_60
  let v122 : Index := Scalar.indexCast v96
  ![6, v122.toNat]
def k0_off29 (k0_t3 : Fin k0_t3_loop.trips) : Fin 2 → Nat :=
  let c7_i32 : BitVec 32 := 7#32
  let v125 : Index := Scalar.indexCast c7_i32
  let c0_i32_56 : BitVec 32 := 0#32
  let c1_i32_58 : BitVec 32 := 1#32
  let arg13 : BitVec 32 := Scf.iv c0_i32_56 c1_i32_58 k0_t3
  let c16_i32_60 : BitVec 32 := 16#32
  let v96 : BitVec 32 := Scalar.muli arg13 c16_i32_60
  let v126 : Index := Scalar.indexCast v96
  ![7, v126.toNat]
def k0_off30 (k0_t3 : Fin k0_t3_loop.trips) : Fin 2 → Nat :=
  let c8_i32_65 : BitVec 32 := 8#32
  let v129 : Index := Scalar.indexCast c8_i32_65
  let c0_i32_56 : BitVec 32 := 0#32
  let c1_i32_58 : BitVec 32 := 1#32
  let arg13 : BitVec 32 := Scf.iv c0_i32_56 c1_i32_58 k0_t3
  let c16_i32_60 : BitVec 32 := 16#32
  let v96 : BitVec 32 := Scalar.muli arg13 c16_i32_60
  let v130 : Index := Scalar.indexCast v96
  ![8, v130.toNat]
@[reducible] def k0_t4_loop : Scf.Loop 32 :=
  let c0_i32_66 : BitVec 32 := 0#32
  let c4_i32_67 : BitVec 32 := 4#32
  let v133 : BitVec 32 := Scalar.addi c0_i32_66 c4_i32_67
  let c1_i32_68 : BitVec 32 := 1#32
  ⟨c0_i32_66, v133, c1_i32_68⟩
def k0_off31 (k0_t3 : Fin k0_t3_loop.trips) (k0_t4 : Fin k0_t4_loop.trips) (c0_i32_81 : BitVec 32) : Fin 2 → Nat :=
  let c32_i32_80 : BitVec 32 := 32#32
  let c0_i32_66 : BitVec 32 := 0#32
  let c1_i32_68 : BitVec 32 := 1#32
  let arg15 : BitVec 32 := Scf.iv c0_i32_66 c1_i32_68 k0_t4
  let c8_i32_79 : BitVec 32 := 8#32
  let v185 : BitVec 32 := Scalar.muli arg15 c8_i32_79
  let v186 : BitVec 32 := Scalar.addi c32_i32_80 v185
  let v187 : BitVec 32 := Scalar.addi v186 c0_i32_81
  let v188 : Index := Scalar.indexCast v187
  let c0_i32_56 : BitVec 32 := 0#32
  let c1_i32_58 : BitVec 32 := 1#32
  let arg13 : BitVec 32 := Scf.iv c0_i32_56 c1_i32_58 k0_t3
  let c16_i32_60 : BitVec 32 := 16#32
  let v96 : BitVec 32 := Scalar.muli arg13 c16_i32_60
  let v189 : Index := Scalar.indexCast v96
  ![v188.toNat, v189.toNat]
def k0_off32 (k0_t3 : Fin k0_t3_loop.trips) (k0_t4 : Fin k0_t4_loop.trips) (c0_i32_81 : BitVec 32) : Fin 3 → Nat :=
  let c0_i32_82 : BitVec 32 := 0#32
  let v194 : Index := Scalar.indexCast c0_i32_82
  let c32_i32_80 : BitVec 32 := 32#32
  let c0_i32_66 : BitVec 32 := 0#32
  let c1_i32_68 : BitVec 32 := 1#32
  let arg15 : BitVec 32 := Scf.iv c0_i32_66 c1_i32_68 k0_t4
  let c8_i32_79 : BitVec 32 := 8#32
  let v185 : BitVec 32 := Scalar.muli arg15 c8_i32_79
  let v186 : BitVec 32 := Scalar.addi c32_i32_80 v185
  let v187 : BitVec 32 := Scalar.addi v186 c0_i32_81
  let v195 : Index := Scalar.indexCast v187
  let c0_i32_56 : BitVec 32 := 0#32
  let c1_i32_58 : BitVec 32 := 1#32
  let arg13 : BitVec 32 := Scf.iv c0_i32_56 c1_i32_58 k0_t3
  let c16_i32_60 : BitVec 32 := 16#32
  let v96 : BitVec 32 := Scalar.muli arg13 c16_i32_60
  let v196 : Index := Scalar.indexCast v96
  ![0, v195.toNat, v196.toNat]
def k0_off33 (k0_t3 : Fin k0_t3_loop.trips) (k0_t4 : Fin k0_t4_loop.trips) (c0_i32_81 : BitVec 32) : Fin 3 → Nat :=
  let c1_i32_83 : BitVec 32 := 1#32
  let v201 : Index := Scalar.indexCast c1_i32_83
  let c32_i32_80 : BitVec 32 := 32#32
  let c0_i32_66 : BitVec 32 := 0#32
  let c1_i32_68 : BitVec 32 := 1#32
  let arg15 : BitVec 32 := Scf.iv c0_i32_66 c1_i32_68 k0_t4
  let c8_i32_79 : BitVec 32 := 8#32
  let v185 : BitVec 32 := Scalar.muli arg15 c8_i32_79
  let v186 : BitVec 32 := Scalar.addi c32_i32_80 v185
  let v187 : BitVec 32 := Scalar.addi v186 c0_i32_81
  let v202 : Index := Scalar.indexCast v187
  let c0_i32_56 : BitVec 32 := 0#32
  let c1_i32_58 : BitVec 32 := 1#32
  let arg13 : BitVec 32 := Scf.iv c0_i32_56 c1_i32_58 k0_t3
  let c16_i32_60 : BitVec 32 := 16#32
  let v96 : BitVec 32 := Scalar.muli arg13 c16_i32_60
  let v203 : Index := Scalar.indexCast v96
  ![1, v202.toNat, v203.toNat]
def k0_off34 (k0_t3 : Fin k0_t3_loop.trips) (k0_t4 : Fin k0_t4_loop.trips) (c0_i32_81 : BitVec 32) : Fin 3 → Nat :=
  let c2_i32_84 : BitVec 32 := 2#32
  let v208 : Index := Scalar.indexCast c2_i32_84
  let c32_i32_80 : BitVec 32 := 32#32
  let c0_i32_66 : BitVec 32 := 0#32
  let c1_i32_68 : BitVec 32 := 1#32
  let arg15 : BitVec 32 := Scf.iv c0_i32_66 c1_i32_68 k0_t4
  let c8_i32_79 : BitVec 32 := 8#32
  let v185 : BitVec 32 := Scalar.muli arg15 c8_i32_79
  let v186 : BitVec 32 := Scalar.addi c32_i32_80 v185
  let v187 : BitVec 32 := Scalar.addi v186 c0_i32_81
  let v209 : Index := Scalar.indexCast v187
  let c0_i32_56 : BitVec 32 := 0#32
  let c1_i32_58 : BitVec 32 := 1#32
  let arg13 : BitVec 32 := Scf.iv c0_i32_56 c1_i32_58 k0_t3
  let c16_i32_60 : BitVec 32 := 16#32
  let v96 : BitVec 32 := Scalar.muli arg13 c16_i32_60
  let v210 : Index := Scalar.indexCast v96
  ![2, v209.toNat, v210.toNat]
def k0_off35 (k0_t3 : Fin k0_t3_loop.trips) (k0_t4 : Fin k0_t4_loop.trips) (c0_i32_81 : BitVec 32) : Fin 3 → Nat :=
  let c3_i32_85 : BitVec 32 := 3#32
  let v215 : Index := Scalar.indexCast c3_i32_85
  let c32_i32_80 : BitVec 32 := 32#32
  let c0_i32_66 : BitVec 32 := 0#32
  let c1_i32_68 : BitVec 32 := 1#32
  let arg15 : BitVec 32 := Scf.iv c0_i32_66 c1_i32_68 k0_t4
  let c8_i32_79 : BitVec 32 := 8#32
  let v185 : BitVec 32 := Scalar.muli arg15 c8_i32_79
  let v186 : BitVec 32 := Scalar.addi c32_i32_80 v185
  let v187 : BitVec 32 := Scalar.addi v186 c0_i32_81
  let v216 : Index := Scalar.indexCast v187
  let c0_i32_56 : BitVec 32 := 0#32
  let c1_i32_58 : BitVec 32 := 1#32
  let arg13 : BitVec 32 := Scf.iv c0_i32_56 c1_i32_58 k0_t3
  let c16_i32_60 : BitVec 32 := 16#32
  let v96 : BitVec 32 := Scalar.muli arg13 c16_i32_60
  let v217 : Index := Scalar.indexCast v96
  ![3, v216.toNat, v217.toNat]
def k0_off36 (k0_t3 : Fin k0_t3_loop.trips) (k0_t4 : Fin k0_t4_loop.trips) (c0_i32_81 : BitVec 32) : Fin 3 → Nat :=
  let c4_i32_86 : BitVec 32 := 4#32
  let v222 : Index := Scalar.indexCast c4_i32_86
  let c32_i32_80 : BitVec 32 := 32#32
  let c0_i32_66 : BitVec 32 := 0#32
  let c1_i32_68 : BitVec 32 := 1#32
  let arg15 : BitVec 32 := Scf.iv c0_i32_66 c1_i32_68 k0_t4
  let c8_i32_79 : BitVec 32 := 8#32
  let v185 : BitVec 32 := Scalar.muli arg15 c8_i32_79
  let v186 : BitVec 32 := Scalar.addi c32_i32_80 v185
  let v187 : BitVec 32 := Scalar.addi v186 c0_i32_81
  let v223 : Index := Scalar.indexCast v187
  let c0_i32_56 : BitVec 32 := 0#32
  let c1_i32_58 : BitVec 32 := 1#32
  let arg13 : BitVec 32 := Scf.iv c0_i32_56 c1_i32_58 k0_t3
  let c16_i32_60 : BitVec 32 := 16#32
  let v96 : BitVec 32 := Scalar.muli arg13 c16_i32_60
  let v224 : Index := Scalar.indexCast v96
  ![4, v223.toNat, v224.toNat]
def k0_off37 (k0_t3 : Fin k0_t3_loop.trips) (k0_t4 : Fin k0_t4_loop.trips) (c0_i32_81 : BitVec 32) : Fin 3 → Nat :=
  let c5_i32_87 : BitVec 32 := 5#32
  let v229 : Index := Scalar.indexCast c5_i32_87
  let c32_i32_80 : BitVec 32 := 32#32
  let c0_i32_66 : BitVec 32 := 0#32
  let c1_i32_68 : BitVec 32 := 1#32
  let arg15 : BitVec 32 := Scf.iv c0_i32_66 c1_i32_68 k0_t4
  let c8_i32_79 : BitVec 32 := 8#32
  let v185 : BitVec 32 := Scalar.muli arg15 c8_i32_79
  let v186 : BitVec 32 := Scalar.addi c32_i32_80 v185
  let v187 : BitVec 32 := Scalar.addi v186 c0_i32_81
  let v230 : Index := Scalar.indexCast v187
  let c0_i32_56 : BitVec 32 := 0#32
  let c1_i32_58 : BitVec 32 := 1#32
  let arg13 : BitVec 32 := Scf.iv c0_i32_56 c1_i32_58 k0_t3
  let c16_i32_60 : BitVec 32 := 16#32
  let v96 : BitVec 32 := Scalar.muli arg13 c16_i32_60
  let v231 : Index := Scalar.indexCast v96
  ![5, v230.toNat, v231.toNat]
def k0_off38 (k0_t3 : Fin k0_t3_loop.trips) (k0_t4 : Fin k0_t4_loop.trips) (c0_i32_81 : BitVec 32) : Fin 3 → Nat :=
  let c6_i32_88 : BitVec 32 := 6#32
  let v236 : Index := Scalar.indexCast c6_i32_88
  let c32_i32_80 : BitVec 32 := 32#32
  let c0_i32_66 : BitVec 32 := 0#32
  let c1_i32_68 : BitVec 32 := 1#32
  let arg15 : BitVec 32 := Scf.iv c0_i32_66 c1_i32_68 k0_t4
  let c8_i32_79 : BitVec 32 := 8#32
  let v185 : BitVec 32 := Scalar.muli arg15 c8_i32_79
  let v186 : BitVec 32 := Scalar.addi c32_i32_80 v185
  let v187 : BitVec 32 := Scalar.addi v186 c0_i32_81
  let v237 : Index := Scalar.indexCast v187
  let c0_i32_56 : BitVec 32 := 0#32
  let c1_i32_58 : BitVec 32 := 1#32
  let arg13 : BitVec 32 := Scf.iv c0_i32_56 c1_i32_58 k0_t3
  let c16_i32_60 : BitVec 32 := 16#32
  let v96 : BitVec 32 := Scalar.muli arg13 c16_i32_60
  let v238 : Index := Scalar.indexCast v96
  ![6, v237.toNat, v238.toNat]
def k0_off39 (k0_t3 : Fin k0_t3_loop.trips) (k0_t4 : Fin k0_t4_loop.trips) (c0_i32_81 : BitVec 32) : Fin 3 → Nat :=
  let c7_i32_89 : BitVec 32 := 7#32
  let v243 : Index := Scalar.indexCast c7_i32_89
  let c32_i32_80 : BitVec 32 := 32#32
  let c0_i32_66 : BitVec 32 := 0#32
  let c1_i32_68 : BitVec 32 := 1#32
  let arg15 : BitVec 32 := Scf.iv c0_i32_66 c1_i32_68 k0_t4
  let c8_i32_79 : BitVec 32 := 8#32
  let v185 : BitVec 32 := Scalar.muli arg15 c8_i32_79
  let v186 : BitVec 32 := Scalar.addi c32_i32_80 v185
  let v187 : BitVec 32 := Scalar.addi v186 c0_i32_81
  let v244 : Index := Scalar.indexCast v187
  let c0_i32_56 : BitVec 32 := 0#32
  let c1_i32_58 : BitVec 32 := 1#32
  let arg13 : BitVec 32 := Scf.iv c0_i32_56 c1_i32_58 k0_t3
  let c16_i32_60 : BitVec 32 := 16#32
  let v96 : BitVec 32 := Scalar.muli arg13 c16_i32_60
  let v245 : Index := Scalar.indexCast v96
  ![7, v244.toNat, v245.toNat]
def k0_off40 (k0_t3 : Fin k0_t3_loop.trips) : Fin 2 → Nat :=
  let c0_i32_70 : BitVec 32 := 0#32
  let v138 : Index := Scalar.indexCast c0_i32_70
  let c0_i32_56 : BitVec 32 := 0#32
  let c1_i32_58 : BitVec 32 := 1#32
  let arg13 : BitVec 32 := Scf.iv c0_i32_56 c1_i32_58 k0_t3
  let c16_i32_60 : BitVec 32 := 16#32
  let v96 : BitVec 32 := Scalar.muli arg13 c16_i32_60
  let v139 : Index := Scalar.indexCast v96
  ![0, v139.toNat]
def k0_off41 (k0_t3 : Fin k0_t3_loop.trips) : Fin 2 → Nat :=
  let c1_i32_71 : BitVec 32 := 1#32
  let v144 : Index := Scalar.indexCast c1_i32_71
  let c0_i32_56 : BitVec 32 := 0#32
  let c1_i32_58 : BitVec 32 := 1#32
  let arg13 : BitVec 32 := Scf.iv c0_i32_56 c1_i32_58 k0_t3
  let c16_i32_60 : BitVec 32 := 16#32
  let v96 : BitVec 32 := Scalar.muli arg13 c16_i32_60
  let v145 : Index := Scalar.indexCast v96
  ![1, v145.toNat]
def k0_off42 (k0_t3 : Fin k0_t3_loop.trips) : Fin 2 → Nat :=
  let c2_i32_72 : BitVec 32 := 2#32
  let v150 : Index := Scalar.indexCast c2_i32_72
  let c0_i32_56 : BitVec 32 := 0#32
  let c1_i32_58 : BitVec 32 := 1#32
  let arg13 : BitVec 32 := Scf.iv c0_i32_56 c1_i32_58 k0_t3
  let c16_i32_60 : BitVec 32 := 16#32
  let v96 : BitVec 32 := Scalar.muli arg13 c16_i32_60
  let v151 : Index := Scalar.indexCast v96
  ![2, v151.toNat]
def k0_off43 (k0_t3 : Fin k0_t3_loop.trips) : Fin 2 → Nat :=
  let c3_i32_73 : BitVec 32 := 3#32
  let v156 : Index := Scalar.indexCast c3_i32_73
  let c0_i32_56 : BitVec 32 := 0#32
  let c1_i32_58 : BitVec 32 := 1#32
  let arg13 : BitVec 32 := Scf.iv c0_i32_56 c1_i32_58 k0_t3
  let c16_i32_60 : BitVec 32 := 16#32
  let v96 : BitVec 32 := Scalar.muli arg13 c16_i32_60
  let v157 : Index := Scalar.indexCast v96
  ![3, v157.toNat]
def k0_off44 (k0_t3 : Fin k0_t3_loop.trips) : Fin 2 → Nat :=
  let c4_i32_74 : BitVec 32 := 4#32
  let v162 : Index := Scalar.indexCast c4_i32_74
  let c0_i32_56 : BitVec 32 := 0#32
  let c1_i32_58 : BitVec 32 := 1#32
  let arg13 : BitVec 32 := Scf.iv c0_i32_56 c1_i32_58 k0_t3
  let c16_i32_60 : BitVec 32 := 16#32
  let v96 : BitVec 32 := Scalar.muli arg13 c16_i32_60
  let v163 : Index := Scalar.indexCast v96
  ![4, v163.toNat]
def k0_off45 (k0_t3 : Fin k0_t3_loop.trips) : Fin 2 → Nat :=
  let c5_i32_75 : BitVec 32 := 5#32
  let v168 : Index := Scalar.indexCast c5_i32_75
  let c0_i32_56 : BitVec 32 := 0#32
  let c1_i32_58 : BitVec 32 := 1#32
  let arg13 : BitVec 32 := Scf.iv c0_i32_56 c1_i32_58 k0_t3
  let c16_i32_60 : BitVec 32 := 16#32
  let v96 : BitVec 32 := Scalar.muli arg13 c16_i32_60
  let v169 : Index := Scalar.indexCast v96
  ![5, v169.toNat]
def k0_off46 (k0_t3 : Fin k0_t3_loop.trips) : Fin 2 → Nat :=
  let c6_i32_76 : BitVec 32 := 6#32
  let v174 : Index := Scalar.indexCast c6_i32_76
  let c0_i32_56 : BitVec 32 := 0#32
  let c1_i32_58 : BitVec 32 := 1#32
  let arg13 : BitVec 32 := Scf.iv c0_i32_56 c1_i32_58 k0_t3
  let c16_i32_60 : BitVec 32 := 16#32
  let v96 : BitVec 32 := Scalar.muli arg13 c16_i32_60
  let v175 : Index := Scalar.indexCast v96
  ![6, v175.toNat]
def k0_off47 (k0_t3 : Fin k0_t3_loop.trips) : Fin 2 → Nat :=
  let c7_i32_77 : BitVec 32 := 7#32
  let v180 : Index := Scalar.indexCast c7_i32_77
  let c0_i32_56 : BitVec 32 := 0#32
  let c1_i32_58 : BitVec 32 := 1#32
  let arg13 : BitVec 32 := Scf.iv c0_i32_56 c1_i32_58 k0_t3
  let c16_i32_60 : BitVec 32 := 16#32
  let v96 : BitVec 32 := Scalar.muli arg13 c16_i32_60
  let v181 : Index := Scalar.indexCast v96
  ![7, v181.toNat]
def k0_off48 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_16 : BitVec 32 := 0#32
  let v40 : BitVec 1 := Scalar.cmpi .sgt v1 c0_i32_16
  let v41 : BitVec 32 := Scalar.extui v40
  let c0_i32_17 : BitVec 32 := 0#32
  let v42 : BitVec 1 := Scalar.cmpi .slt v1 c0_i32_17
  let v43 : BitVec 32 := Scalar.extui v42
  let v44 : BitVec 32 := Scalar.subi v41 v43
  let c16_i32 : BitVec 32 := 16#32
  let c0_i32_18 : BitVec 32 := 0#32
  let v45 : BitVec 1 := Scalar.cmpi .sgt c16_i32 c0_i32_18
  let v46 : BitVec 32 := Scalar.extui v45
  let c0_i32_19 : BitVec 32 := 0#32
  let v47 : BitVec 1 := Scalar.cmpi .slt c16_i32 c0_i32_19
  let v48 : BitVec 32 := Scalar.extui v47
  let v49 : BitVec 32 := Scalar.subi v46 v48
  let v50 : BitVec 1 := Scalar.cmpi .ne v44 v49
  let v51 : BitVec 32 := Scalar.remsi v1 c16_i32
  let c0_i32_20 : BitVec 32 := 0#32
  let v52 : BitVec 1 := Scalar.cmpi .ne v51 c0_i32_20
  let v53 : BitVec 1 := Scalar.andi v50 v52
  let v39 : BitVec 32 := Scalar.divsi v1 c16_i32
  let c1_i32_21 : BitVec 32 := 1#32
  let v54 : BitVec 32 := Scalar.subi v39 c1_i32_21
  let v55 : BitVec 32 := Scalar.select v53 v54 v39
  let c8_i32_22 : BitVec 32 := 8#32
  let v56 : BitVec 32 := Scalar.muli v55 c8_i32_22
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c8_i32_3 : BitVec 32 := 8#32
  let c0_i32_6 : BitVec 32 := 0#32
  let v18 : BitVec 1 := Scalar.cmpi .sgt c8_i32_3 c0_i32_6
  let v19 : BitVec 32 := Scalar.extui v18
  let c0_i32_7 : BitVec 32 := 0#32
  let v20 : BitVec 1 := Scalar.cmpi .slt c8_i32_3 c0_i32_7
  let v21 : BitVec 32 := Scalar.extui v20
  let v22 : BitVec 32 := Scalar.subi v19 v21
  let v23 : BitVec 1 := Scalar.cmpi .ne v17 v22
  let v24 : BitVec 32 := Scalar.remsi v1 c8_i32_3
  let c0_i32_8 : BitVec 32 := 0#32
  let v25 : BitVec 1 := Scalar.cmpi .ne v24 c0_i32_8
  let v26 : BitVec 1 := Scalar.andi v23 v25
  let v12 : BitVec 32 := Scalar.divsi v1 c8_i32_3
  let c1_i32_9 : BitVec 32 := 1#32
  let v27 : BitVec 32 := Scalar.subi v12 c1_i32_9
  let v28 : BitVec 32 := Scalar.select v26 v27 v12
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let c64_i32 : BitVec 32 := 64#32
  let v57 : BitVec 32 := Scalar.muli v38 c64_i32
  ![v56.toNat, v11.toNat, v57.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x20000x128 : Shape := ⟨3, ![16, 20000, 128]⟩
abbrev S8x64x128 : Shape := ⟨3, ![8, 64, 128]⟩
abbrev S8 : Shape := ⟨1, ![8]⟩
abbrev S8x1 : Shape := ⟨2, ![8, 1]⟩
abbrev S_ : Shape := ⟨0, ![]⟩
abbrev S64 : Shape := ⟨1, ![64]⟩
abbrev S1x64 : Shape := ⟨2, ![1, 64]⟩
abbrev S8x64 : Shape := ⟨2, ![8, 64]⟩
abbrev S8x64x1 : Shape := ⟨3, ![8, 64, 1]⟩
abbrev S1 : Shape := ⟨1, ![1]⟩
abbrev S1x1x1 : Shape := ⟨3, ![1, 1, 1]⟩
abbrev S16x8x64x128 : Shape := ⟨4, ![16, 8, 64, 128]⟩
abbrev S8x128 : Shape := ⟨2, ![8, 128]⟩
abbrev S8x1x128 : Shape := ⟨3, ![8, 1, 128]⟩
abbrev S1x8x64x128 : Shape := ⟨4, ![1, 8, 64, 128]⟩
abbrev S16x8x128 : Shape := ⟨3, ![16, 8, 128]⟩

abbrev nBuf : Space → Nat
  | .hbm => 54
  | .vmem => 0
  | .smem => 0
  | _ => 0

abbrev bufTy : (tb : Table) → Fin (tcTables nBuf tb) → BufTy
  | .hbm, ⟨0, _⟩ => ⟨S16x20000x128, .f32⟩
  | .hbm, ⟨1, _⟩ => ⟨S8x64x128, .f32⟩
  | .hbm, ⟨2, _⟩ => ⟨S8, .i32⟩
  | .hbm, ⟨3, _⟩ => ⟨S8x1, .i32⟩
  | .hbm, ⟨4, _⟩ => ⟨S_, .i32⟩
  | .hbm, ⟨5, _⟩ => ⟨S8x1, .i32⟩
  | .hbm, ⟨6, _⟩ => ⟨S8x1, .i32⟩
  | .hbm, ⟨7, _⟩ => ⟨S64, .i32⟩
  | .hbm, ⟨8, _⟩ => ⟨S1x64, .i32⟩
  | .hbm, ⟨9, _⟩ => ⟨S8x64, .i32⟩
  | .hbm, ⟨10, _⟩ => ⟨S8x64, .i32⟩
  | .hbm, ⟨11, _⟩ => ⟨S8x64, .i32⟩
  | .hbm, ⟨12, _⟩ => ⟨S_, .i32⟩
  | .hbm, ⟨13, _⟩ => ⟨S8x64, .i32⟩
  | .hbm, ⟨14, _⟩ => ⟨S8x64, .i1⟩
  | .hbm, ⟨15, _⟩ => ⟨S_, .i32⟩
  | .hbm, ⟨16, _⟩ => ⟨S8x64, .i32⟩
  | .hbm, ⟨17, _⟩ => ⟨S8x64, .i32⟩
  | .hbm, ⟨18, _⟩ => ⟨S8x64, .i32⟩
  | .hbm, ⟨19, _⟩ => ⟨S8x64x1, .i32⟩
  | .hbm, ⟨20, _⟩ => ⟨S1, .i32⟩
  | .hbm, ⟨21, _⟩ => ⟨S_, .i32⟩
  | .hbm, ⟨22, _⟩ => ⟨S8x64x1, .i32⟩
  | .hbm, ⟨23, _⟩ => ⟨S8x64x1, .i1⟩
  | .hbm, ⟨24, _⟩ => ⟨S1x1x1, .i32⟩
  | .hbm, ⟨25, _⟩ => ⟨S8x64x1, .i32⟩
  | .hbm, ⟨26, _⟩ => ⟨S8x64x1, .i1⟩
  | .hbm, ⟨27, _⟩ => ⟨S8x64x1, .i1⟩
  | .hbm, ⟨28, _⟩ => ⟨S_, .i1⟩
  | .hbm, ⟨29, _⟩ => ⟨S8x64, .i1⟩
  | .hbm, ⟨30, _⟩ => ⟨S16x8x64x128, .f32⟩
  | .hbm, ⟨31, _⟩ => ⟨S16x8x64x128, .i1⟩
  | .hbm, ⟨32, _⟩ => ⟨S_, .f32⟩
  | .hbm, ⟨33, _⟩ => ⟨S16x8x64x128, .f32⟩
  | .hbm, ⟨34, _⟩ => ⟨S16x8x64x128, .f32⟩
  | .hbm, ⟨35, _⟩ => ⟨S_, .f32⟩
  | .hbm, ⟨36, _⟩ => ⟨S8x128, .f32⟩
  | .hbm, ⟨37, _⟩ => ⟨S_, .f32⟩
  | .hbm, ⟨38, _⟩ => ⟨S8x128, .f32⟩
  | .hbm, ⟨39, _⟩ => ⟨S8x128, .f32⟩
  | .hbm, ⟨40, _⟩ => ⟨S8x1x128, .f32⟩
  | .hbm, ⟨41, _⟩ => ⟨S8x64x128, .f32⟩
  | .hbm, ⟨42, _⟩ => ⟨S8x64x128, .f32⟩
  | .hbm, ⟨43, _⟩ => ⟨S8x64x128, .f32⟩
  | .hbm, ⟨44, _⟩ => ⟨S_, .f32⟩
  | .hbm, ⟨45, _⟩ => ⟨S8x128, .f32⟩
  | .hbm, ⟨46, _⟩ => ⟨S8x1x128, .f32⟩
  | .hbm, ⟨47, _⟩ => ⟨S8x64x128, .f32⟩
  | .hbm, ⟨48, _⟩ => ⟨S8x64x128, .f32⟩
  | .hbm, ⟨49, _⟩ => ⟨S1x8x64x128, .f32⟩
  | .hbm, ⟨50, _⟩ => ⟨S16x8x64x128, .f32⟩
  | .hbm, ⟨51, _⟩ => ⟨S16x8x64x128, .f32⟩
  | .hbm, ⟨52, _⟩ => ⟨S_, .f32⟩
  | .hbm, ⟨53, _⟩ => ⟨S16x8x128, .f32⟩
  | _, _ => ⟨S16x20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v9 : Ref sig .tc := ⟨.hbm, 34, rfl⟩
abbrev main_cst : Ref sig .tc := ⟨.hbm, 35, rfl⟩
abbrev main_v10 : Ref sig .tc := ⟨.hbm, 36, rfl⟩
abbrev main_cst_0 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_cst_1 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_cst_2 : Ref sig .tc := ⟨.hbm, 52, rfl⟩
abbrev main_v24 : Ref sig .tc := ⟨.hbm, 53, rfl⟩

abbrev nD : Nat := 1
abbrev τ : Topo := Topo.v7x

variable {F : FTy → Type} [FloatOps F]
-- ==== Proof.Values.lean ====
module

public import proofs.«01_k».proof.Defs
public import Idealize.ShloMosaic.Lib.ValueIdx
public import Idealize.ShloMosaic.Lib.ValueLayout
public import Idealize.ShloMosaic.Lib.Writes
public import proofs.«01_k».proof.Proof.Gen.KernelIdeal
public import proofs.«01_k».proof.Proof.Gen.KernelIdeal.Skeleton

@[expose] public section

/-! The values the kernel's tile computes, over any floats: the running sums it keeps in registers,
one per quantity (`0` the weights' sum, `b + 1` batch `b`'s weighted sum), and the rows its loads read. -/

noncomputable section

namespace Cert.Proof.Agg

open Cert.KernelIdeal Cert.KernelIdeal.Gen
open Idealize.ShloMosaic Idealize.ShloMosaic.ValueIdx

variable {F : FTy → Type} [FloatOps F]

/-- The tile's copy of the weights: 64 rows (genes of the set) of 64 columns. -/
abbrev ABuf (F : FTy → Type) := S64x64.Idx → F .f32
/-- The tile's copy of the gene values: 8 batches of 64 rows of 64 columns. -/
abbrev GBuf (F : FTy → Type) := S8x64x64.Idx → F .f32

/-- A weight by natural-number row and column. -/
def wAt (f : ABuf F) (n c : ℕ) : F .f32 := f (ix2 (Fin.ofNat 64 n) (Fin.ofNat 64 c))
/-- A gene value by batch and natural-number row and column. -/
def gAt (f : GBuf F) (b : Fin 8) (n c : ℕ) : F .f32 := f (ix3 b (Fin.ofNat 64 n) (Fin.ofNat 64 c))

/-- The sum of the first `n` terms, in the order the kernel adds them. -/
def fold (t : ℕ → F .f32) : ℕ → F .f32
  | 0 => FloatOps.ofBits .f32 0x00000000#32
  | n + 1 => FloatOps.addf (fold t n) (t n)

/-- The `n`-th term of quantity `q` in column `c`: the exponential of the weight, times batch
`q - 1`'s gene value when `q` is positive. -/
def term (fa : ABuf F) (fg : GBuf F) (q : Fin 9) (c n : ℕ) : F .f32 :=
  Fin.cases (motive := fun _ => F .f32) (FloatOps.exp (wAt fa n c))
    (fun b => FloatOps.mulf (FloatOps.exp (wAt fa n c)) (gAt fg b n c)) q

/-- Quantity `q` of column `c` after `n` rows. -/
def acc (fa : ABuf F) (fg : GBuf F) (q : Fin 9) (c n : ℕ) : F .f32 := fold (term fa fg q c) n

/-- The sixteen columns of chunk `t` of quantity `q` after `n` rows: what one register holds. -/
def accV (fa : ABuf F) (fg : GBuf F) (t n : ℕ) (q : Fin 9) : FVec F S16 .f32 :=
  fun j => acc fa fg q (16 * t + (j 0).val) n

/-- The nine registers together. -/
abbrev carry (fa : ABuf F) (fg : GBuf F) (t n : ℕ) :
    FVec F S16 .f32 × FVec F S16 .f32 × FVec F S16 .f32 × FVec F S16 .f32 × FVec F S16 .f32 × FVec F S16 .f32 × FVec F S16 .f32 × FVec F S16 .f32 × FVec F S16 .f32 :=
  (accV fa fg t n 0, accV fa fg t n 1, accV fa fg t n 2, accV fa fg t n 3, accV fa fg t n 4, accV fa fg t n 5,
    accV fa fg t n 6, accV fa fg t n 7, accV fa fg t n 8)

/-- The exponentials of row `n` in chunk `t`. -/
def wRow (fa : ABuf F) (t n : ℕ) : FVec F S16 .f32 := fun j => FloatOps.exp (wAt fa n (16 * t + (j 0).val))
/-- Row `n` of batch `b` in chunk `t`. -/
def gRow (fg : GBuf F) (b : Fin 8) (t n : ℕ) : FVec F S16 .f32 := fun j => gAt fg b n (16 * t + (j 0).val)

/-- Eight weight rows added in order advance the weights' sum by eight rows. -/
theorem chain_zero (fa : ABuf F) (fg : GBuf F) (t n : ℕ) (x : Fin 8 → FVec F S16 .f32) (hx : ∀ r, x r = wRow fa t (n + r.val)) :
    addf (addf (addf (addf (addf (addf (addf (addf (accV fa fg t n 0) (x 0)) (x 1)) (x 2)) (x 3)) (x 4)) (x 5)) (x 6)) (x 7)
      = accV fa fg t (n + 8) 0 := by
  simp only [hx]; rfl

/-- Eight products added in order advance batch `b`'s sum by eight rows. -/
theorem chain_succ (fa : ABuf F) (fg : GBuf F) (t n : ℕ) (b : Fin 8) (x y : Fin 8 → FVec F S16 .f32)
    (hx : ∀ r, x r = wRow fa t (n + r.val)) (hy : ∀ r, y r = gRow fg b t (n + r.val)) :
    addf (addf (addf (addf (addf (addf (addf (addf (accV fa fg t n b.succ) (mulf (x 0) (y 0))) (mulf (x 1) (y 1))) (mulf (x 2) (y 2)))
      (mulf (x 3) (y 3))) (mulf (x 4) (y 4))) (mulf (x 5) (y 5))) (mulf (x 6) (y 6))) (mulf (x 7) (y 7))
      = accV fa fg t (n + 8) b.succ := by
  simp only [hx, hy]; rfl

/-- A load of sixteen weights at row `n` and chunk `t`, exponentiated. -/
theorem exp_load (fa : ABuf F) (off : Fin 2 → ℕ) (h) (n t : ℕ) (hoff : off = ![n, 16 * t]) (hn : n < 64) (ht : t < 4) :
    exp (shapeCast S16 (View.readAt (Elt F) (Memref.whole cc0_scratch0 : Memref sig Kind.scVector Space.vmem S64x64 EltTy.f32).view
        (Rect.unit (s := S64x64) off S1x16.size h) fa) shapeCasts_S1x16_S16) = wRow (F := F) fa t n := by
  subst hoff
  funext j
  rw [eq_ix1 j]
  have hj : (j 0).val < 16 := (j 0).isLt
  show FloatOps.exp (shapeCast S16 _ _ (ix1 (j 0))) = FloatOps.exp _
  congr 1
  refine (shapeCast_1a_a_apply _ _ _).trans ?_
  unfold wAt
  refine congrArg fa ?_
  funext a
  refine Fin.ext ?_
  match a with
  | ⟨0, _⟩ => show n + _ = n % 64; rw [Nat.mod_eq_of_lt hn]; rfl
  | ⟨1, _⟩ => show 16 * t + _ = (16 * t + (j 0).val) % 64; rw [Nat.mod_eq_of_lt (by omega)]; simp

/-- A load of sixteen gene values of batch `b` at row `n` and chunk `t`. -/
theorem gene_load (fg : GBuf F) (off : Fin 3 → ℕ) (h) (b : Fin 8) (n t : ℕ) (hoff : off = ![b.val, n, 16 * t]) (hn : n < 64) (ht : t < 4) :
    shapeCast S16 (View.readAt (Elt F) (Memref.whole cc0_scratch1 : Memref sig Kind.scVector Space.vmem S8x64x64 EltTy.f32).view
        (Rect.unit (s := S8x64x64) off S1x1x16.size h) fg) shapeCasts_S1x1x16_S16 = gRow (F := F) fg b t n := by
  subst hoff
  funext j
  rw [eq_ix1 j]
  have hj : (j 0).val < 16 := (j 0).isLt
  refine (shapeCast_apply _ _ (ix1 (j 0)) (ix3 0 0 (j 0)) ?_).trans ?_
  · rw [Shape.rowMajor_val_three, Shape.rowMajor_val_one]
    show (0 * 1 + 0) * 16 + (j 0).val = (j 0).val
    omega
  unfold gRow gAt
  refine congrArg fg ?_
  funext a
  refine Fin.ext ?_
  match a with
  | ⟨0, _⟩ => rfl
  | ⟨1, _⟩ => show n + _ = n % 64; rw [Nat.mod_eq_of_lt hn]; rfl
  | ⟨2, _⟩ => show 16 * t + _ = (16 * t + (j 0).val) % 64; rw [Nat.mod_eq_of_lt (by omega)]; simp

/-- What the tile stores for batch `b` and column `c`: the weighted sum over all 64 rows times the
reciprocal of the weights' sum. -/
def res (fa : ABuf F) (fg : GBuf F) (b : Fin 8) (c : ℕ) : F .f32 :=
  FloatOps.mulf (acc fa fg b.succ c 64) (FloatOps.divf (FloatOps.ofBits .f32 0x3F800000#32) (acc fa fg 0 c 64))

/-- The scratch rows hold, in the first `16 k` columns, the nine sums over the first 32 rows. -/
def SDone (fa : ABuf F) (fg : GBuf F) (fs : S9x64.Idx → F .f32) (k : ℕ) : Prop :=
  ∀ y : S9x64.Idx, (y 1).val < 16 * k → fs y = acc fa fg (y 0) (y 1).val 32

/-- The tile's output block holds its results in the first `16 k` columns. -/
def ODone (fa : ABuf F) (fg : GBuf F) (fo : S8x64.Idx → F .f32) (k : ℕ) : Prop :=
  ∀ y : S8x64.Idx, (y 1).val < 16 * k → fo y = res fa fg (y 0) (y 1).val

/-- Stores of sixteen columns into every row of a 64-column array, at chunk `t`, extend the columns
known to hold `G` by one chunk. -/
theorem chunk_writes {R : ℕ} {κ : Kind} {sp : Space} {e : EltTy} {Val : EltTy → Type} (v : View sig κ sp ⟨2, ![R, 64]⟩ e)
    (f : v.ty.Contents Val) (t : ℕ) (G : (⟨2, ![R, 64]⟩ : Shape).Idx → Val e) (L : List (View.Piece Val ⟨2, ![R, 64]⟩ e))
    (hp : ∀ p ∈ L, (p.1.off 1 = 16 * t ∧ p.1.size 1 = 16 ∧ p.1.stride 1 = 1) ∧ ∀ x, p.2 x = G (p.1.emb x))
    (hc : ∀ q : Fin R, ∃ p ∈ L, p.1.off 0 = q.val ∧ p.1.size 0 = 1 ∧ p.1.stride 0 = 1)
    (hf : ∀ y, (y 1).val < 16 * t → v.read Val f y = G y) (y) (hy : (y 1).val < 16 * (t + 1)) :
    v.read Val (v.writes Val f L) y = G y := by
  by_cases h : (y 1).val < 16 * t
  · rw [View.read_writes_apply_of_forall_not_mem v f y L fun p hp' =>
      p.1.not_mem_set_of_axis y 1 _ _ (hp p hp').1.1 (hp p hp').1.2.2 (hp p hp').1.2.1 (.inl h)]
    exact hf y h
  · refine View.read_writes_apply_of_pieces v f G L (fun p hp' => (hp p hp').2) y ?_
    obtain ⟨p, hpL, h0, h1, h2⟩ := hc (y 0)
    refine ⟨p, hpL, p.1.mem_set.mpr fun a => ?_⟩
    obtain ⟨g0, g1, g2⟩ := (hp p hpL).1
    match a with
    | ⟨0, _⟩ => exact ⟨0, by rw [show p.1.size ⟨0, _⟩ = 1 from h1]; omega, by rw [show p.1.off ⟨0, _⟩ = _ from h0]; simp⟩
    | ⟨1, _⟩ =>
      refine ⟨(y 1).val - 16 * t, by rw [show p.1.size ⟨1, _⟩ = 16 from g1]; omega, ?_⟩
      rw [show p.1.off ⟨1, _⟩ = _ from g0, show p.1.stride ⟨1, _⟩ = 1 from g2]
      show (y 1).val = _
      omega

/-- Nine stores into the scratch rows at chunk `t` extend the finished columns by that chunk. -/
theorem SDone.step (fa : ABuf F) (fg : GBuf F) (fs : S9x64.Idx → F .f32) (t : ℕ) (hs : SDone fa fg fs t) (L : List (View.Piece (Elt F) S9x64 EltTy.f32))
    (hp : ∀ p ∈ L, (p.1.off 1 = 16 * t ∧ p.1.size 1 = 16 ∧ p.1.stride 1 = 1)
      ∧ ∀ x, p.2 x = (fun y : S9x64.Idx => acc fa fg (y 0) (y 1).val 32) (p.1.emb x))
    (hc : ∀ q : Fin 9, ∃ p ∈ L, p.1.off 0 = q.val ∧ p.1.size 0 = 1 ∧ p.1.stride 0 = 1) :
    SDone fa fg ((Memref.whole cc0_scratch3 : Memref sig Kind.scVector Space.vmem S9x64 EltTy.f32).view.writes (Elt F) fs L) (t + 1) :=
  @chunk_writes 9 Kind.scVector Space.vmem EltTy.f32 (Elt F) (Memref.whole cc0_scratch3 : Memref sig Kind.scVector Space.vmem S9x64 EltTy.f32).view fs t
    (fun y : S9x64.Idx => acc fa fg (y 0) (y 1).val 32) L hp hc hs

/-- Eight stores into the output block at chunk `t` extend the finished columns by that chunk. -/
theorem ODone.step (fa : ABuf F) (fg : GBuf F) (fo : S8x64.Idx → F .f32) (t : ℕ) (ho : ODone fa fg fo t) (L : List (View.Piece (Elt F) S8x64 EltTy.f32))
    (hp : ∀ p ∈ L, (p.1.off 1 = 16 * t ∧ p.1.size 1 = 16 ∧ p.1.stride 1 = 1)
      ∧ ∀ x, p.2 x = (fun y : S8x64.Idx => res fa fg (y 0) (y 1).val) (p.1.emb x))
    (hc : ∀ q : Fin 8, ∃ p ∈ L, p.1.off 0 = q.val ∧ p.1.size 0 = 1 ∧ p.1.stride 0 = 1) :
    ODone fa fg ((Memref.whole cc0_scratch2 : Memref sig Kind.scVector Space.vmem S8x64 EltTy.f32).view.writes (Elt F) fo L) (t + 1) :=
  @chunk_writes 8 Kind.scVector Space.vmem EltTy.f32 (Elt F) (Memref.whole cc0_scratch2 : Memref sig Kind.scVector Space.vmem S8x64 EltTy.f32).view fo t
    (fun y : S8x64.Idx => res fa fg (y 0) (y 1).val) L hp hc ho

/-- Sixteen columns cast to a one-row block, read at `x`. -/
theorem row_apply (w : FVec F S16 .f32) (x : S1x16.Idx) : shapeCast S1x16 w shapeCasts_S16_S1x16 x = w (ix1 (x 1)) := by
  rw [eq_ix2 x]; exact shapeCast_a_1a_apply w _ _ _

/-- The stored row `q` of the sums, at chunk `t`, is the sums there. -/
theorem sum_piece (fa : ABuf F) (fg : GBuf F) (t n : ℕ) (q : Fin 9) (off : Fin 2 → ℕ) (h) (hoff : off = ![q.val, 16 * t]) (x : S1x16.Idx) :
    shapeCast S1x16 (accV fa fg t n q) shapeCasts_S16_S1x16 x
      = (fun y : S9x64.Idx => acc fa fg (y 0) (y 1).val n) ((Rect.unit (s := S9x64) off S1x16.size h).emb x) := by
  subst hoff
  have h0 : (x 0).val = 0 := by have := (x 0).isLt; exact Nat.lt_one_iff.mp this
  rw [row_apply]
  have e0 : (Rect.unit (s := S9x64) ![q.val, 16 * t] S1x16.size h).emb x 0 = q := Fin.ext (by
    show q.val + 1 * (x 0).val = q.val; omega)
  have e1 : ((Rect.unit (s := S9x64) ![q.val, 16 * t] S1x16.size h).emb x 1).val = 16 * t + (x 1).val := by
    show 16 * t + 1 * (x 1).val = _; omega
  show acc fa fg q (16 * t + (x 1).val) n = acc fa fg _ _ n
  rw [e0, e1]

/-- The stored row `b` of the results, at chunk `t`, is the results there. -/
theorem res_piece (fa : ABuf F) (fg : GBuf F) (t : ℕ) (b : Fin 8) (off : Fin 2 → ℕ) (h) (hoff : off = ![b.val, 16 * t]) (x : S1x16.Idx) :
    shapeCast S1x16 (mulf (accV fa fg t 64 b.succ) (divf (broadcast S16 (FloatOps.ofBits .f32 0x3F800000#32)) (accV fa fg t 64 0)))
        shapeCasts_S16_S1x16 x
      = (fun y : S8x64.Idx => res fa fg (y 0) (y 1).val) ((Rect.unit (s := S8x64) off S1x16.size h).emb x) := by
  subst hoff
  have h0 : (x 0).val = 0 := by have := (x 0).isLt; exact Nat.lt_one_iff.mp this
  rw [row_apply]
  have e0 : (Rect.unit (s := S8x64) ![b.val, 16 * t] S1x16.size h).emb x 0 = b := Fin.ext (by
    show b.val + 1 * (x 0).val = b.val; omega)
  have e1 : ((Rect.unit (s := S8x64) ![b.val, 16 * t] S1x16.size h).emb x 1).val = 16 * t + (x 1).val := by
    show 16 * t + 1 * (x 1).val = _; omega
  show res fa fg b (16 * t + (x 1).val) = res fa fg _ _
  rw [e0, e1]

/-- A load of row `q` of the finished sums at chunk `t` is the register's content to go on from. -/
theorem sum_load (fa : ABuf F) (fg : GBuf F) (fs : S9x64.Idx → F .f32) (hs : SDone fa fg fs 4) (q : Fin 9) (t : ℕ) (ht : t < 4)
    (off : Fin 2 → ℕ) (h) (hoff : off = ![q.val, 16 * t]) :
    shapeCast S16 (View.readAt (Elt F) (Memref.whole cc0_scratch3 : Memref sig Kind.scVector Space.vmem S9x64 EltTy.f32).view
        (Rect.unit (s := S9x64) off S1x16.size h) fs) shapeCasts_S1x16_S16 = accV fa fg t 32 q := by
  subst hoff
  funext j
  have hj : (j 0).val < 16 := (j 0).isLt
  rw [eq_ix1 j]
  refine (shapeCast_1a_a_apply _ _ _).trans ?_
  refine (hs _ ?_).trans ?_
  · show 16 * t + 1 * (j 0).val < _; omega
  · have e0 : (Rect.unit (s := S9x64) ![q.val, 16 * t] S1x16.size h).idx (ix2 0 (j 0)) 0 = q := Fin.ext rfl
    have e1 : ((Rect.unit (s := S9x64) ![q.val, 16 * t] S1x16.size h).idx (ix2 0 (j 0)) 1).val = 16 * t + (j 0).val := by
      show 16 * t + 1 * (j 0).val = _; omega
    show acc fa fg _ _ 32 = acc fa fg q (16 * t + (j 0).val) 32
    exact congrArg₂ (fun a b => acc fa fg a b 32) e0 e1

end Cert.Proof.Agg
end
-- ==== Proof.Trips.lean ====
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Tactic
public import proofs.«01_k».proof.Proof.Gen.KernelIdeal
public import proofs.«01_k».proof.Proof.Gen.KernelIdeal.Skeleton
public import proofs.«01_k».proof.Proof.Values

@[expose] public section

noncomputable section

namespace Cert.Proof.Agg

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The proof uses no variant. -/
abbrev 𝒱₀ : Variants := Variants.none
/-- The ghost state of the launch handshakes. -/
abbrev UH : Type := URounds (GSem nD τ sig) ℕ
/-- The handshakes' ghost state beside the copies' counters. -/
abbrev UU : Type := UH × Counters

local notation "𝕄" => MT nD τ sig (HIx 1) (Elt F) ℕ UU ℕ

local notation "gM" => (Memref.whole Cert.KernelIdeal.main_arg0_scv : Memref Cert.KernelIdeal.sig Kind.scVector Space.hbm Cert.KernelIdeal.S16x20000x128 EltTy.f32)
local notation "aM" => (Memref.whole Cert.KernelIdeal.main_arg1_scv : Memref Cert.KernelIdeal.sig Kind.scVector Space.hbm Cert.KernelIdeal.S8x64x128 EltTy.f32)
local notation "oM" => (Memref.whole Cert.KernelIdeal.main_v0_scv : Memref Cert.KernelIdeal.sig Kind.scVector Space.hbm Cert.KernelIdeal.S16x8x128 EltTy.f32)
local notation "aV" => (Memref.whole Cert.KernelIdeal.cc0_scratch0 : Memref Cert.KernelIdeal.sig Kind.scVector Space.vmem Cert.KernelIdeal.S64x64 EltTy.f32)
local notation "gV" => (Memref.whole Cert.KernelIdeal.cc0_scratch1 : Memref Cert.KernelIdeal.sig Kind.scVector Space.vmem Cert.KernelIdeal.S8x64x64 EltTy.f32)
local notation "oV" => (Memref.whole Cert.KernelIdeal.cc0_scratch2 : Memref Cert.KernelIdeal.sig Kind.scVector Space.vmem Cert.KernelIdeal.S8x64 EltTy.f32)
local notation "sV" => (Memref.whole Cert.KernelIdeal.cc0_scratch3 : Memref Cert.KernelIdeal.sig Kind.scVector Space.vmem Cert.KernelIdeal.S9x64 EltTy.f32)

/-- The SparseCore of grid point `L`. -/
abbrev cV (L : grid0.Coords) : Fin τ.nSC := (L 0).castLE hcore0
/-- The subcore of grid point `L`. -/
abbrev jV (L : grid0.Coords) : Fin τ.nSub := (L 1).castLE hsub0

/-- Rows 32 to 63 of every batch of the genes' scratch. -/
abbrev rHi : Rect S8x64x64 := Rect.unit (s := S8x64x64) ![0, 32, 0] S8x32x64.size inb_S8x64x64_S8x32x64_0_32_0
/-- Rows 0 to 31 of every batch of the genes' scratch. -/
abbrev rLo : Rect S8x64x64 := Rect.unit (s := S8x64x64) ![0, 0, 0] S8x32x64.size inb_S8x64x64_S8x32x64_0_0_0

/-- One trip of the first half's inner loop adds rows `8 t2 … 8 t2 + 7` to the nine running sums. -/
theorem trip2 (d : Dev nD) (L : grid0.Coords) (t1 : Fin k0_t1_loop.trips) (t2 : Fin k0_t2_loop.trips) (v96 : BitVec 32)
    (f5 : Buf (Elt F) ((V d (cV L) (jV L)).loc cc0_scratch0)) (f6 : Buf (Elt F) ((V d (cV L) (jV L)).loc cc0_scratch1)) :
    iprop(((aV).view.loc (V d (cV L) (jV L)) ↦{fullShare} f5) ∗ ((gV).view.loc (V d (cV L) (jV L)) ↦[(gV).view.setOn rLo.set]{fullShare} f6))
    ⊢ wp frame (wpE (defs₀ (F := F)) 𝒱₀ (V d (cV L) (jV L)) none) Set.univ
        (k0_t2_body (F := F) L gM (Memref.isWhole_whole _) aM (Memref.isWhole_whole _) oM (Memref.isWhole_whole _) aV (Memref.isWhole_whole _) gV (Memref.isWhole_whole _)
          oV (Memref.isWhole_whole _) sV (Memref.isWhole_whole _) cc0_scratch4 cc0_scratch5 cc0_scratch6 cc0_scratch7 0#32 1#32 t1 v96 t2
          (carry (F := F) f5 f6 t1.val (8 * t2.val)))
        fun r => (iprop(⌜r = carry (F := F) f5 f6 t1.val (8 * t2.val + 8)⌝
          ∗ ((aV).view.loc (V d (cV L) (jV L)) ↦{fullShare} f5) ∗ ((gV).view.loc (V d (cV L) (jV L)) ↦[(gV).view.setOn rLo.set]{fullShare} f6)) : sProp 𝕄) := by
  have ht1 : t1.val < 4 := t1.isLt
  have ht2 : t2.val < 4 := t2.isLt
  have hw : ∀ r : Fin 8, exp (shapeCast S16 (View.readAt (Elt F) (aV).view
      (Rect.unit (s := S64x64) (k0_off4 t1 t2 (BitVec.ofNat 32 r.val)) S1x16.size (k0_off4_inb t1 t2 r)) f5) shapeCasts_S1x16_S16)
      = wRow (F := F) f5 t1.val (8 * t2.val + r.val) :=
    fun r => exp_load f5 _ _ (8 * t2.val + r.val) t1.val (k0_off4_eq t1 t2 r) (by omega) ht1
  unfold k0_t2_body
  rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  iintro ⟨Ha, Hg⟩
  sl_exec
  sl_step
  isplitr
  · ipureintro
    refine Prod.ext ?_ (Prod.ext ?_ (Prod.ext ?_ (Prod.ext ?_ (Prod.ext ?_ (Prod.ext ?_ (Prod.ext ?_ (Prod.ext ?_ ?_)))))))
    · exact chain_zero f5 f6 t1.val (8 * t2.val) _ hw
    · exact chain_succ f5 f6 t1.val (8 * t2.val) 0 _ _ hw fun r => gene_load f6 _ (k0_off5_inb t1 t2 r) 0 _ _ (k0_off5_eq t1 t2 r) (by omega) ht1
    · exact chain_succ f5 f6 t1.val (8 * t2.val) 1 _ _ hw fun r => gene_load f6 _ (k0_off6_inb t1 t2 r) 1 _ _ (k0_off6_eq t1 t2 r) (by omega) ht1
    · exact chain_succ f5 f6 t1.val (8 * t2.val) 2 _ _ hw fun r => gene_load f6 _ (k0_off7_inb t1 t2 r) 2 _ _ (k0_off7_eq t1 t2 r) (by omega) ht1
    · exact chain_succ f5 f6 t1.val (8 * t2.val) 3 _ _ hw fun r => gene_load f6 _ (k0_off8_inb t1 t2 r) 3 _ _ (k0_off8_eq t1 t2 r) (by omega) ht1
    · exact chain_succ f5 f6 t1.val (8 * t2.val) 4 _ _ hw fun r => gene_load f6 _ (k0_off9_inb t1 t2 r) 4 _ _ (k0_off9_eq t1 t2 r) (by omega) ht1
    · exact chain_succ f5 f6 t1.val (8 * t2.val) 5 _ _ hw fun r => gene_load f6 _ (k0_off10_inb t1 t2 r) 5 _ _ (k0_off10_eq t1 t2 r) (by omega) ht1
    · exact chain_succ f5 f6 t1.val (8 * t2.val) 6 _ _ hw fun r => gene_load f6 _ (k0_off11_inb t1 t2 r) 6 _ _ (k0_off11_eq t1 t2 r) (by omega) ht1
    · exact chain_succ f5 f6 t1.val (8 * t2.val) 7 _ _ hw fun r => gene_load f6 _ (k0_off12_inb t1 t2 r) 7 _ _ (k0_off12_eq t1 t2 r) (by omega) ht1
  · isplitl [Ha]
    · iexact Ha
    · iexact Hg

/-- One trip of the second half's inner loop adds rows `32 + 8 t4 … 32 + 8 t4 + 7` to the nine running sums. -/
theorem trip4 (d : Dev nD) (L : grid0.Coords) (t3 : Fin k0_t3_loop.trips) (t4 : Fin k0_t4_loop.trips) (v96 : BitVec 32)
    (f5 : Buf (Elt F) ((V d (cV L) (jV L)).loc cc0_scratch0)) (f6 : Buf (Elt F) ((V d (cV L) (jV L)).loc cc0_scratch1)) :
    iprop(((aV).view.loc (V d (cV L) (jV L)) ↦{fullShare} f5) ∗ ((gV).view.loc (V d (cV L) (jV L)) ↦[(gV).view.setOn rHi.set]{fullShare} f6))
    ⊢ wp frame (wpE (defs₀ (F := F)) 𝒱₀ (V d (cV L) (jV L)) none) Set.univ
        (k0_t4_body (F := F) L gM (Memref.isWhole_whole _) aM (Memref.isWhole_whole _) oM (Memref.isWhole_whole _) aV (Memref.isWhole_whole _) gV (Memref.isWhole_whole _)
          oV (Memref.isWhole_whole _) sV (Memref.isWhole_whole _) cc0_scratch4 cc0_scratch5 cc0_scratch6 cc0_scratch7 0#32 1#32 t3 v96 t4
          (carry (F := F) f5 f6 t3.val (8 * t4.val + 32)))
        fun r => (iprop(⌜r = carry (F := F) f5 f6 t3.val (8 * t4.val + 32 + 8)⌝
          ∗ ((aV).view.loc (V d (cV L) (jV L)) ↦{fullShare} f5) ∗ ((gV).view.loc (V d (cV L) (jV L)) ↦[(gV).view.setOn rHi.set]{fullShare} f6)) : sProp 𝕄) := by
  have ht3 : t3.val < 4 := t3.isLt
  have ht4 : t4.val < 4 := t4.isLt
  have hn : ∀ r : Fin 8, 8 * t4.val + r.val + 32 = 8 * t4.val + 32 + r.val := fun r => Nat.add_right_comm _ _ _
  have hw : ∀ r : Fin 8, exp (shapeCast S16 (View.readAt (Elt F) (aV).view
      (Rect.unit (s := S64x64) (k0_off31 t3 t4 (BitVec.ofNat 32 r.val)) S1x16.size (k0_off31_inb t3 t4 r)) f5) shapeCasts_S1x16_S16)
      = wRow (F := F) f5 t3.val (8 * t4.val + 32 + r.val) :=
    fun r => exp_load f5 _ _ (8 * t4.val + 32 + r.val) t3.val (hn r ▸ k0_off31_eq t3 t4 r) (by omega) ht3
  unfold k0_t4_body
  rw [k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  iintro ⟨Ha, Hg⟩
  sl_exec
  sl_step
  isplitr
  · ipureintro
    refine Prod.ext ?_ (Prod.ext ?_ (Prod.ext ?_ (Prod.ext ?_ (Prod.ext ?_ (Prod.ext ?_ (Prod.ext ?_ (Prod.ext ?_ ?_)))))))
    · exact chain_zero f5 f6 t3.val (8 * t4.val + 32) _ hw
    · exact chain_succ f5 f6 t3.val (8 * t4.val + 32) 0 _ _ hw fun r => gene_load f6 _ (k0_off32_inb t3 t4 r) 0 _ _ (hn r ▸ k0_off32_eq t3 t4 r) (by omega) ht3
    · exact chain_succ f5 f6 t3.val (8 * t4.val + 32) 1 _ _ hw fun r => gene_load f6 _ (k0_off33_inb t3 t4 r) 1 _ _ (hn r ▸ k0_off33_eq t3 t4 r) (by omega) ht3
    · exact chain_succ f5 f6 t3.val (8 * t4.val + 32) 2 _ _ hw fun r => gene_load f6 _ (k0_off34_inb t3 t4 r) 2 _ _ (hn r ▸ k0_off34_eq t3 t4 r) (by omega) ht3
    · exact chain_succ f5 f6 t3.val (8 * t4.val + 32) 3 _ _ hw fun r => gene_load f6 _ (k0_off35_inb t3 t4 r) 3 _ _ (hn r ▸ k0_off35_eq t3 t4 r) (by omega) ht3
    · exact chain_succ f5 f6 t3.val (8 * t4.val + 32) 4 _ _ hw fun r => gene_load f6 _ (k0_off36_inb t3 t4 r) 4 _ _ (hn r ▸ k0_off36_eq t3 t4 r) (by omega) ht3
    · exact chain_succ f5 f6 t3.val (8 * t4.val + 32) 5 _ _ hw fun r => gene_load f6 _ (k0_off37_inb t3 t4 r) 5 _ _ (hn r ▸ k0_off37_eq t3 t4 r) (by omega) ht3
    · exact chain_succ f5 f6 t3.val (8 * t4.val + 32) 6 _ _ hw fun r => gene_load f6 _ (k0_off38_inb t3 t4 r) 6 _ _ (hn r ▸ k0_off38_eq t3 t4 r) (by omega) ht3
    · exact chain_succ f5 f6 t3.val (8 * t4.val + 32) 7 _ _ hw fun r => gene_load f6 _ (k0_off39_inb t3 t4 r) 7 _ _ (hn r ▸ k0_off39_eq t3 t4 r) (by omega) ht3
  · isplitl [Ha]
    · iexact Ha
    · iexact Hg

end Cert.Proof.Agg
end
-- ==== Proof.Outer.lean ====
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Tactic
public import proofs.«01_k».proof.Proof.Gen.KernelIdeal
public import proofs.«01_k».proof.Proof.Gen.KernelIdeal.Skeleton
public import proofs.«01_k».proof.Proof.Trips

@[expose] public section

noncomputable section

namespace Cert.Proof.Agg

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "gM" => (Memref.whole Cert.KernelIdeal.main_arg0_scv : Memref Cert.KernelIdeal.sig Kind.scVector Space.hbm Cert.KernelIdeal.S16x20000x128 EltTy.f32)
local notation "aM" => (Memref.whole Cert.KernelIdeal.main_arg1_scv : Memref Cert.KernelIdeal.sig Kind.scVector Space.hbm Cert.KernelIdeal.S8x64x128 EltTy.f32)
local notation "oM" => (Memref.whole Cert.KernelIdeal.main_v0_scv : Memref Cert.KernelIdeal.sig Kind.scVector Space.hbm Cert.KernelIdeal.S16x8x128 EltTy.f32)
local notation "aV" => (Memref.whole Cert.KernelIdeal.cc0_scratch0 : Memref Cert.KernelIdeal.sig Kind.scVector Space.vmem Cert.KernelIdeal.S64x64 EltTy.f32)
local notation "gV" => (Memref.whole Cert.KernelIdeal.cc0_scratch1 : Memref Cert.KernelIdeal.sig Kind.scVector Space.vmem Cert.KernelIdeal.S8x64x64 EltTy.f32)
local notation "oV" => (Memref.whole Cert.KernelIdeal.cc0_scratch2 : Memref Cert.KernelIdeal.sig Kind.scVector Space.vmem Cert.KernelIdeal.S8x64 EltTy.f32)
local notation "sV" => (Memref.whole Cert.KernelIdeal.cc0_scratch3 : Memref Cert.KernelIdeal.sig Kind.scVector Space.vmem Cert.KernelIdeal.S9x64 EltTy.f32)

/-- One trip of the first half's outer loop: chunk `t1` of the nine sums over the first 32 rows. -/
theorem trip1 (d : Dev nD) (L : grid0.Coords) (t1 : Fin k0_t1_loop.trips) (x : BitVec 32)
    (f5 : Buf (Elt F) ((V d (cV L) (jV L)).loc cc0_scratch0)) (f6 : Buf (Elt F) ((V d (cV L) (jV L)).loc cc0_scratch1))
    (fs : Buf (Elt F) ((V d (cV L) (jV L)).loc cc0_scratch3)) (hs : SDone (F := F) f5 f6 fs t1.val) :
    iprop(((aV).view.loc (V d (cV L) (jV L)) ↦{fullShare} f5) ∗ ((gV).view.loc (V d (cV L) (jV L)) ↦[(gV).view.setOn rLo.set]{fullShare} f6)
      ∗ ((sV).view.loc (V d (cV L) (jV L)) ↦{fullShare} fs))
    ⊢ wp frame (wpE (defs₀ (F := F)) 𝒱₀ (V d (cV L) (jV L)) none) Set.univ
        (k0_t1_body (F := F) L gM (Memref.isWhole_whole _) aM (Memref.isWhole_whole _) oM (Memref.isWhole_whole _) aV (Memref.isWhole_whole _) gV (Memref.isWhole_whole _)
          oV (Memref.isWhole_whole _) sV (Memref.isWhole_whole _) cc0_scratch4 cc0_scratch5 cc0_scratch6 cc0_scratch7 t1 x)
        fun _ => (iprop(((aV).view.loc (V d (cV L) (jV L)) ↦{fullShare} f5) ∗ ((gV).view.loc (V d (cV L) (jV L)) ↦[(gV).view.setOn rLo.set]{fullShare} f6)
          ∗ ∃ fs', ⌜SDone (F := F) f5 f6 fs' (t1.val + 1)⌝ ∗ ((sV).view.loc (V d (cV L) (jV L)) ↦{fullShare} fs')) : sProp 𝕄) := by
  have ht1 : t1.val < 4 := t1.isLt
  unfold k0_t1_body
  rw [k0_part11_eq_skeleton]
  iintro ⟨Ha, Hg, Hs⟩
  sl_exec
  sl_for (fun k (r : _) => (iprop(⌜r = carry (F := F) f5 f6 t1.val (8 * k)⌝
          ∗ ((aV).view.loc (V d (cV L) (jV L)) ↦{fullShare} f5) ∗ ((gV).view.loc (V d (cV L) (jV L)) ↦[(gV).view.setOn rLo.set]{fullShare} f6)) : sProp 𝕄)) $$ [Ha Hg]
  case region =>
    intro k r
    iintro ⟨%hr, Ha, Hg⟩
    subst hr
    iapply (trip2 d L t1 k _ f5 f6)
    isplitl [Ha] <;> iassumption
  · isplitr
    · ipureintro; rfl
    · isplitl [Ha]
      · iexact Ha
      · iexact Hg
  iintro %r HI
  icases HI with ⟨%hr, Ha, Hg⟩
  subst hr
  sl_exec
  sl_step
  isplitl [Ha]
  · iexact Ha
  isplitl [Hg]
  · iexact Hg
  iexists _
  isplitr
  swap
  · iexact Hs
  · ipureintro
    refine SDone.step f5 f6 fs t1.val hs _ ?_ ?_
    · simp only [List.forall_mem_cons, List.not_mem_nil, false_imp_iff, implies_true, and_true]
      exact ⟨⟨⟨congrFun (k0_off21_eq t1) 1, rfl, rfl⟩, fun x => sum_piece f5 f6 t1.val 32 8 _ _ (k0_off21_eq t1) x⟩,
        ⟨⟨congrFun (k0_off20_eq t1) 1, rfl, rfl⟩, fun x => sum_piece f5 f6 t1.val 32 7 _ _ (k0_off20_eq t1) x⟩,
        ⟨⟨congrFun (k0_off19_eq t1) 1, rfl, rfl⟩, fun x => sum_piece f5 f6 t1.val 32 6 _ _ (k0_off19_eq t1) x⟩,
        ⟨⟨congrFun (k0_off18_eq t1) 1, rfl, rfl⟩, fun x => sum_piece f5 f6 t1.val 32 5 _ _ (k0_off18_eq t1) x⟩,
        ⟨⟨congrFun (k0_off17_eq t1) 1, rfl, rfl⟩, fun x => sum_piece f5 f6 t1.val 32 4 _ _ (k0_off17_eq t1) x⟩,
        ⟨⟨congrFun (k0_off16_eq t1) 1, rfl, rfl⟩, fun x => sum_piece f5 f6 t1.val 32 3 _ _ (k0_off16_eq t1) x⟩,
        ⟨⟨congrFun (k0_off15_eq t1) 1, rfl, rfl⟩, fun x => sum_piece f5 f6 t1.val 32 2 _ _ (k0_off15_eq t1) x⟩,
        ⟨⟨congrFun (k0_off14_eq t1) 1, rfl, rfl⟩, fun x => sum_piece f5 f6 t1.val 32 1 _ _ (k0_off14_eq t1) x⟩,
        ⟨⟨congrFun (k0_off13_eq t1) 1, rfl, rfl⟩, fun x => sum_piece f5 f6 t1.val 32 0 _ _ (k0_off13_eq t1) x⟩⟩
    · exact fun q => match q with
        | ⟨0, _⟩ => ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))), congrFun (k0_off13_eq t1) 0, rfl, rfl⟩
        | ⟨1, _⟩ => ⟨_, List.mem_cons_of_mem _ (List.mem_cons_of_mem _ (List.mem_cons_of_mem _ (List.mem_cons_of_mem _ (List.mem_cons_of_mem _ (List.mem_cons_of_mem _ (List.mem_cons_of_mem _ List.mem_cons_self)))))), congrFun (k0_off14_eq t1) 0, rfl, rfl⟩
        | ⟨2, _⟩ => ⟨_, List.mem_cons_of_mem _ (List.mem_cons_of_mem _ (List.mem_cons_of_mem _ (List.mem_cons_of_mem _ (List.mem_cons_of_mem _ (List.mem_cons_of_mem _ List.mem_cons_self))))), congrFun (k0_off15_eq t1) 0, rfl, rfl⟩
        | ⟨3, _⟩ => ⟨_, List.mem_cons_of_mem _ (List.mem_cons_of_mem _ (List.mem_cons_of_mem _ (List.mem_cons_of_mem _ (List.mem_cons_of_mem _ List.mem_cons_self)))), congrFun (k0_off16_eq t1) 0, rfl, rfl⟩
        | ⟨4, _⟩ => ⟨_, List.mem_cons_of_mem _ (List.mem_cons_of_mem _ (List.mem_cons_of_mem _ (List.mem_cons_of_mem _ List.mem_cons_self))), congrFun (k0_off17_eq t1) 0, rfl, rfl⟩
        | ⟨5, _⟩ => ⟨_, List.mem_cons_of_mem _ (List.mem_cons_of_mem _ (List.mem_cons_of_mem _ List.mem_cons_self)), congrFun (k0_off18_eq t1) 0, rfl, rfl⟩
        | ⟨6, _⟩ => ⟨_, List.mem_cons_of_mem _ (List.mem_cons_of_mem _ List.mem_cons_self), congrFun (k0_off19_eq t1) 0, rfl, rfl⟩
        | ⟨7, _⟩ => ⟨_, List.mem_cons_of_mem _ List.mem_cons_self, congrFun (k0_off20_eq t1) 0, rfl, rfl⟩
        | ⟨8, _⟩ => ⟨_, List.mem_cons_self, congrFun (k0_off21_eq t1) 0, rfl, rfl⟩

/-- One trip of the second half's outer loop: chunk `t3` of the nine sums over all 64 rows, and of the results stored. -/
theorem trip3 (d : Dev nD) (L : grid0.Coords) (t3 : Fin k0_t3_loop.trips) (x : BitVec 32)
    (f5 : Buf (Elt F) ((V d (cV L) (jV L)).loc cc0_scratch0)) (f6 : Buf (Elt F) ((V d (cV L) (jV L)).loc cc0_scratch1))
    (fs : Buf (Elt F) ((V d (cV L) (jV L)).loc cc0_scratch3)) (hs : SDone (F := F) f5 f6 fs 4)
    (fo : Buf (Elt F) ((V d (cV L) (jV L)).loc cc0_scratch2)) (ho : ODone (F := F) f5 f6 fo t3.val) :
    iprop(((aV).view.loc (V d (cV L) (jV L)) ↦{fullShare} f5) ∗ ((gV).view.loc (V d (cV L) (jV L)) ↦[(gV).view.setOn rHi.set]{fullShare} f6)
      ∗ ((sV).view.loc (V d (cV L) (jV L)) ↦{fullShare} fs) ∗ ((oV).view.loc (V d (cV L) (jV L)) ↦{fullShare} fo))
    ⊢ wp frame (wpE (defs₀ (F := F)) 𝒱₀ (V d (cV L) (jV L)) none) Set.univ
        (k0_t3_body (F := F) L gM (Memref.isWhole_whole _) aM (Memref.isWhole_whole _) oM (Memref.isWhole_whole _) aV (Memref.isWhole_whole _) gV (Memref.isWhole_whole _)
          oV (Memref.isWhole_whole _) sV (Memref.isWhole_whole _) cc0_scratch4 cc0_scratch5 cc0_scratch6 cc0_scratch7 t3 x)
        fun _ => (iprop(((aV).view.loc (V d (cV L) (jV L)) ↦{fullShare} f5) ∗ ((gV).view.loc (V d (cV L) (jV L)) ↦[(gV).view.setOn rHi.set]{fullShare} f6)
          ∗ ((sV).view.loc (V d (cV L) (jV L)) ↦{fullShare} fs)
          ∗ ∃ fo', ⌜ODone (F := F) f5 f6 fo' (t3.val + 1)⌝ ∗ ((oV).view.loc (V d (cV L) (jV L)) ↦{fullShare} fo')) : sProp 𝕄) := by
  have ht3 : t3.val < 4 := t3.isLt
  unfold k0_t3_body
  rw [k0_part22_eq_skeleton, k0_part23_eq_skeleton]
  iintro ⟨Ha, Hg, Hs, Ho⟩
  sl_exec
  sl_for (fun k (r : _) => (iprop(⌜r = carry (F := F) f5 f6 t3.val (8 * k + 32)⌝
          ∗ ((aV).view.loc (V d (cV L) (jV L)) ↦{fullShare} f5) ∗ ((gV).view.loc (V d (cV L) (jV L)) ↦[(gV).view.setOn rHi.set]{fullShare} f6)) : sProp 𝕄)) $$ [Ha Hg]
  case region =>
    intro k r
    iintro ⟨%hr, Ha, Hg⟩
    subst hr
    iapply ((trip4 d L t3 k _ f5 f6).trans (wp_mono _ _ _ fun r => ?_))
    · iintro ⟨%hr, Ha, Hg⟩
      isplitr
      · ipureintro; rw [hr, show 8 * (k.val + 1) + 32 = 8 * k.val + 32 + 8 by omega]
      · isplitl [Ha] <;> iassumption
    · isplitl [Ha] <;> iassumption
  · isplitr
    · ipureintro
      refine Prod.ext ?_ (Prod.ext ?_ (Prod.ext ?_ (Prod.ext ?_ (Prod.ext ?_ (Prod.ext ?_ (Prod.ext ?_ (Prod.ext ?_ ?_)))))))
      · exact sum_load f5 f6 fs hs 0 t3.val ht3 _ _ (k0_off22_eq t3)
      · exact sum_load f5 f6 fs hs 1 t3.val ht3 _ _ (k0_off23_eq t3)
      · exact sum_load f5 f6 fs hs 2 t3.val ht3 _ _ (k0_off24_eq t3)
      · exact sum_load f5 f6 fs hs 3 t3.val ht3 _ _ (k0_off25_eq t3)
      · exact sum_load f5 f6 fs hs 4 t3.val ht3 _ _ (k0_off26_eq t3)
      · exact sum_load f5 f6 fs hs 5 t3.val ht3 _ _ (k0_off27_eq t3)
      · exact sum_load f5 f6 fs hs 6 t3.val ht3 _ _ (k0_off28_eq t3)
      · exact sum_load f5 f6 fs hs 7 t3.val ht3 _ _ (k0_off29_eq t3)
      · exact sum_load f5 f6 fs hs 8 t3.val ht3 _ _ (k0_off30_eq t3)
    · isplitl [Ha]
      · iexact Ha
      · iexact Hg
  iintro %r HI
  icases HI with ⟨%hr, Ha, Hg⟩
  subst hr
  sl_exec
  sl_step
  isplitl [Ha]
  · iexact Ha
  isplitl [Hg]
  · iexact Hg
  isplitl [Hs]
  · iexact Hs
  iexists _
  isplitr
  swap
  · iexact Ho
  · ipureintro
    refine ODone.step f5 f6 fo t3.val ho _ ?_ ?_
    · simp only [List.forall_mem_cons, List.not_mem_nil, false_imp_iff, implies_true, and_true]
      exact ⟨⟨⟨congrFun (k0_off47_eq t3) 1, rfl, rfl⟩, fun x => res_piece f5 f6 t3.val 7 _ _ (k0_off47_eq t3) x⟩,
        ⟨⟨congrFun (k0_off46_eq t3) 1, rfl, rfl⟩, fun x => res_piece f5 f6 t3.val 6 _ _ (k0_off46_eq t3) x⟩,
        ⟨⟨congrFun (k0_off45_eq t3) 1, rfl, rfl⟩, fun x => res_piece f5 f6 t3.val 5 _ _ (k0_off45_eq t3) x⟩,
        ⟨⟨congrFun (k0_off44_eq t3) 1, rfl, rfl⟩, fun x => res_piece f5 f6 t3.val 4 _ _ (k0_off44_eq t3) x⟩,
        ⟨⟨congrFun (k0_off43_eq t3) 1, rfl, rfl⟩, fun x => res_piece f5 f6 t3.val 3 _ _ (k0_off43_eq t3) x⟩,
        ⟨⟨congrFun (k0_off42_eq t3) 1, rfl, rfl⟩, fun x => res_piece f5 f6 t3.val 2 _ _ (k0_off42_eq t3) x⟩,
        ⟨⟨congrFun (k0_off41_eq t3) 1, rfl, rfl⟩, fun x => res_piece f5 f6 t3.val 1 _ _ (k0_off41_eq t3) x⟩,
        ⟨⟨congrFun (k0_off40_eq t3) 1, rfl, rfl⟩, fun x => res_piece f5 f6 t3.val 0 _ _ (k0_off40_eq t3) x⟩⟩
    · exact fun q => match q with
        | ⟨0, _⟩ => ⟨_, List.mem_cons_of_mem _ (List.mem_cons_of_mem _ (List.mem_cons_of_mem _ (List.mem_cons_of_mem _ (List.mem_cons_of_mem _ (List.mem_cons_of_mem _ (List.mem_cons_of_mem _ List.mem_cons_self)))))), congrFun (k0_off40_eq t3) 0, rfl, rfl⟩
        | ⟨1, _⟩ => ⟨_, List.mem_cons_of_mem _ (List.mem_cons_of_mem _ (List.mem_cons_of_mem _ (List.mem_cons_of_mem _ (List.mem_cons_of_mem _ (List.mem_cons_of_mem _ List.mem_cons_self))))), congrFun (k0_off41_eq t3) 0, rfl, rfl⟩
        | ⟨2, _⟩ => ⟨_, List.mem_cons_of_mem _ (List.mem_cons_of_mem _ (List.mem_cons_of_mem _ (List.mem_cons_of_mem _ (List.mem_cons_of_mem _ List.mem_cons_self)))), congrFun (k0_off42_eq t3) 0, rfl, rfl⟩
        | ⟨3, _⟩ => ⟨_, List.mem_cons_of_mem _ (List.mem_cons_of_mem _ (List.mem_cons_of_mem _ (List.mem_cons_of_mem _ List.mem_cons_self))), congrFun (k0_off43_eq t3) 0, rfl, rfl⟩
        | ⟨4, _⟩ => ⟨_, List.mem_cons_of_mem _ (List.mem_cons_of_mem _ (List.mem_cons_of_mem _ List.mem_cons_self)), congrFun (k0_off44_eq t3) 0, rfl, rfl⟩
        | ⟨5, _⟩ => ⟨_, List.mem_cons_of_mem _ (List.mem_cons_of_mem _ List.mem_cons_self), congrFun (k0_off45_eq t3) 0, rfl, rfl⟩
        | ⟨6, _⟩ => ⟨_, List.mem_cons_of_mem _ List.mem_cons_self, congrFun (k0_off46_eq t3) 0, rfl, rfl⟩
        | ⟨7, _⟩ => ⟨_, List.mem_cons_self, congrFun (k0_off47_eq t3) 0, rfl, rfl⟩

end Cert.Proof.Agg
end
-- ==== Proof.Tile.lean ====
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Tactic
public import proofs.«01_k».proof.Proof.Gen.KernelIdeal
public import proofs.«01_k».proof.Proof.Gen.KernelIdeal.Skeleton
public import proofs.«01_k».proof.Proof.Outer

@[expose] public section

noncomputable section

namespace Cert.Proof.Agg

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.ValueIdx

variable {F : FTy → Type} [FloatOps F]

local notation "𝕄" => MT nD τ sig (HIx 1) (Elt F) ℕ UU ℕ

local notation "gM" => (Memref.whole Cert.KernelIdeal.main_arg0_scv : Memref Cert.KernelIdeal.sig Kind.scVector Space.hbm Cert.KernelIdeal.S16x20000x128 EltTy.f32)
local notation "aM" => (Memref.whole Cert.KernelIdeal.main_arg1_scv : Memref Cert.KernelIdeal.sig Kind.scVector Space.hbm Cert.KernelIdeal.S8x64x128 EltTy.f32)
local notation "oM" => (Memref.whole Cert.KernelIdeal.main_v0_scv : Memref Cert.KernelIdeal.sig Kind.scVector Space.hbm Cert.KernelIdeal.S16x8x128 EltTy.f32)
local notation "aV" => (Memref.whole Cert.KernelIdeal.cc0_scratch0 : Memref Cert.KernelIdeal.sig Kind.scVector Space.vmem Cert.KernelIdeal.S64x64 EltTy.f32)
local notation "gV" => (Memref.whole Cert.KernelIdeal.cc0_scratch1 : Memref Cert.KernelIdeal.sig Kind.scVector Space.vmem Cert.KernelIdeal.S8x64x64 EltTy.f32)
local notation "oV" => (Memref.whole Cert.KernelIdeal.cc0_scratch2 : Memref Cert.KernelIdeal.sig Kind.scVector Space.vmem Cert.KernelIdeal.S8x64 EltTy.f32)
local notation "sV" => (Memref.whole Cert.KernelIdeal.cc0_scratch3 : Memref Cert.KernelIdeal.sig Kind.scVector Space.vmem Cert.KernelIdeal.S9x64 EltTy.f32)

/-! ## Where a tile works -/

/-- A tile's number; from it its gene set, its half of the columns and its first batch. -/
def wid (L : grid0.Coords) : ℕ := 2 * (L 1).val + (L 0).val
/-- The gene set a worker sums. -/
def setOf (L : grid0.Coords) : ℕ := wid L % 8
/-- The half of the columns a worker covers. -/
def halfOf (L : grid0.Coords) : ℕ := wid L / 8 % 2
/-- The first of the eight batches a worker covers. -/
def batchOf (L : grid0.Coords) : ℕ := wid L / 16 * 8

/-- Where the weights' copy starts. -/
theorem off1_eq : ∀ L : grid0.Coords, k0_off1 L = ![setOf L, 0, 64 * halfOf L] := by decide +kernel
/-- Where the copy of the first 32 genes starts. -/
theorem off2_eq : ∀ L : grid0.Coords, k0_off2 L = ![batchOf L, 100 * setOf L, 64 * halfOf L] := by decide +kernel
/-- Where the copy of the last 32 genes starts. -/
theorem off3_eq : ∀ L : grid0.Coords, k0_off3 L = ![batchOf L, 100 * setOf L + 32, 64 * halfOf L] := by decide +kernel
/-- Where the result's copy starts. -/
theorem off48_eq : ∀ L : grid0.Coords, k0_off48 L = ![batchOf L, setOf L, 64 * halfOf L] := by decide +kernel
/-- There are eight sets. -/
theorem setOf_lt (L : grid0.Coords) : setOf L < 8 := Nat.mod_lt _ (by omega)
/-- There are two halves. -/
theorem halfOf_lt (L : grid0.Coords) : halfOf L < 2 := Nat.mod_lt _ (by omega)
/-- A worker's first batch is at most 8. -/
theorem batchOf_le : ∀ L : grid0.Coords, batchOf L ≤ 8 := by decide +kernel
/-- A worker's first batch is a multiple of 8. -/
theorem batchOf_div : ∀ L : grid0.Coords, batchOf L / 8 * 8 = batchOf L := by decide +kernel

/-- The gene array of device `d`. -/
abbrev gLoc (d : Dev nD) : Loc nD τ sig := (SparseCore.T d).loc main_arg0
/-- The weight array of device `d`. -/
abbrev aLoc (d : Dev nD) : Loc nD τ sig := (SparseCore.T d).loc main_arg1
/-- The result array of device `d`. -/
abbrev oLoc (d : Dev nD) : Loc nD τ sig := (SparseCore.T d).loc main_v0

/-- The tile's slices of the arrays, as its copies name them. -/
abbrev aSl (L : grid0.Coords) : Memref sig .scVector .hbm S64x64 .f32 :=
  ((aM).slice (Rect.unit (s := S8x64x128) (k0_off1 L) S1x64x64.size (k0_off1_inb L)) (fun _ => rfl)).squeeze S64x64 squeezes_S1x64x64_S64x64
/-- The first 32 genes of a worker's set, as its copy reads them. -/
abbrev gSlLo (L : grid0.Coords) : Memref sig .scVector .hbm S8x32x64 .f32 :=
  (gM).slice (Rect.unit (s := S16x20000x128) (k0_off2 L) S8x32x64.size (k0_off2_inb L)) (fun _ => rfl)
/-- The last 32 genes of a worker's set, as its copy reads them. -/
abbrev gSlHi (L : grid0.Coords) : Memref sig .scVector .hbm S8x32x64 .f32 :=
  (gM).slice (Rect.unit (s := S16x20000x128) (k0_off3 L) S8x32x64.size (k0_off3_inb L)) (fun _ => rfl)
/-- A worker's block of the result, as its copy writes it. -/
abbrev oSl (L : grid0.Coords) : Memref sig .scVector .hbm S8x64 .f32 :=
  ((oM).slice (Rect.unit (s := S16x8x128) (k0_off48 L) S8x1x64.size (k0_off48_inb L)) (fun _ => rfl)).squeeze S8x64 squeezes_S8x1x64_S8x64

/-! ## What a tile fetches and what it leaves -/

/-- The weights of set `s`, half `h` of the columns. -/
def aIn (a : S8x64x128.Idx → F .f32) (s h : ℕ) : ABuf F :=
  fun y => a (ix3 (Fin.ofNat 8 s) (y 0) (Fin.ofNat 128 (64 * h + (y 1).val)))

/-- The rows of the genes of set `s` in the eight batches from `b`, half `h` of the columns. -/
def gIn (g : S16x20000x128.Idx → F .f32) (b s h : ℕ) : GBuf F :=
  fun y => g (ix3 (Fin.ofNat 16 (b + (y 0).val)) (Fin.ofNat 20000 (100 * s + (y 1).val)) (Fin.ofNat 128 (64 * h + (y 2).val)))

/-- The result array, element by element: the tile that owns the element computes it from what it fetched. -/
def outV (g : S16x20000x128.Idx → F .f32) (a : S8x64x128.Idx → F .f32) : S16x8x128.Idx → F .f32 :=
  fun y => res (aIn a (y 1).val ((y 2).val / 64)) (gIn g ((y 0).val / 8 * 8) (y 1).val ((y 2).val / 64)) (Fin.ofNat 8 (y 0).val) ((y 2).val % 64)

/-- Where a squeezed slab's element sits: its row and column with the dropped coordinate at zero. -/
theorem squeeze_first (y : S64x64.Idx) : Shape.reshapeEquiv squeezes_S1x64x64_S64x64.numel_eq y = (ix3 (⟨0, Nat.one_pos⟩ : Fin 1) (y 0) (y 1) : S1x64x64.Idx) :=
  (congrArg _ (eq_ix2 y)).trans (reshapeEquiv_ix2_1ab _ (y 0) (y 1))

omit [FloatOps F] in
/-- The weights' copy brings `aIn`. -/
theorem aSl_read (L : grid0.Coords) (a : S8x64x128.Idx → F .f32) : (aSl L).view.read (Elt F) a = aIn a (setOf L) (halfOf L) := by
  funext y
  have h := setOf_lt L
  have h' := halfOf_lt L
  have hy : (y 1).val < 64 := (y 1).isLt
  rw [View.read_apply]
  refine congrArg a ?_
  show (Rect.unit (s := S8x64x128) (k0_off1 L) S1x64x64.size (k0_off1_inb L)).emb (Shape.reshapeEquiv _ y) = _
  rw [squeeze_first]
  refine Rect.emb_eq_of_coords _ _ _ fun i => ?_
  have e := congrFun (off1_eq L) i
  show _ = k0_off1 L i + 1 * _
  rw [e]
  fin_cases i
  · show setOf L % 8 = setOf L + 1 * 0; omega
  · show (y 0).val = 0 + 1 * (y 0).val; omega
  · show (64 * halfOf L + (y 1).val) % 128 = 64 * halfOf L + 1 * (y 1).val; omega

omit [FloatOps F] in
/-- A copy of 32 genes brings those rows of `gIn`. -/
theorem gSl_read (L : grid0.Coords) (g : S16x20000x128.Idx → F .f32) (n : ℕ) (hn : n ≤ 32) (off : Fin 3 → ℕ) (h)
    (hoff : off = ![batchOf L, 100 * setOf L + n, 64 * halfOf L]) (x : S8x32x64.Idx) (y : S8x64x64.Idx)
    (h0 : (y 0).val = (x 0).val) (h1 : (y 1).val = n + (x 1).val) (h2 : (y 2).val = (x 2).val) :
    ((gM).slice (Rect.unit (s := S16x20000x128) off S8x32x64.size h) (fun _ => rfl)).view.read (Elt F) g x
      = gIn g (batchOf L) (setOf L) (halfOf L) y := by
  have hs := setOf_lt L
  have hh := halfOf_lt L
  have hb := batchOf_le L
  have hx0 : (x 0).val < 8 := (x 0).isLt
  have hx1 : (x 1).val < 32 := (x 1).isLt
  have hx2 : (x 2).val < 64 := (x 2).isLt
  rw [View.read_apply]
  refine congrArg g ?_
  show (Rect.unit (s := S16x20000x128) off S8x32x64.size h).emb x = _
  refine Rect.emb_eq_of_coords _ _ _ fun i => ?_
  have e := congrFun hoff i
  show _ = off i + 1 * _
  rw [e]
  fin_cases i
  · show (batchOf L + (y 0).val) % 16 = batchOf L + 1 * (x 0).val; omega
  · show (100 * setOf L + (y 1).val) % 20000 = 100 * setOf L + n + 1 * (x 1).val; omega
  · show (64 * halfOf L + (y 2).val) % 128 = 64 * halfOf L + 1 * (x 2).val; omega

/-- A landed half of the genes' rows, on the elements it covers. -/
theorem gLand (r : Rect S8x64x64) (f6 : GBuf F) (w : r.shape.Idx → F .f32) (G : GBuf F) (hw : ∀ x, w x = G (r.emb x)) :
    ∀ i ∈ (gV).view.setOn r.set, (gV).view.writes (Elt F) f6 [⟨r, w⟩] i = G i := by
  intro i hi
  obtain ⟨y, hy, rfl⟩ := Finset.mem_map.mp hi
  exact View.read_writes_apply_of_pieces (Val := Elt F) (gV).view f6 G [⟨r, w⟩]
    (fun p hp => by rw [List.mem_singleton.mp hp]; exact hw) y ⟨_, List.mem_singleton_self _, hy⟩

/-- Where a squeezed block's element sits: its row and column with the dropped coordinate at zero. -/
theorem squeeze_mid (y : S8x64.Idx) : Shape.reshapeEquiv squeezes_S8x1x64_S8x64.numel_eq y = (ix3 (y 0) (⟨0, Nat.one_pos⟩ : Fin 1) (y 1) : S8x1x64.Idx) :=
  Shape.reshapeEquiv_eq_of_rowMajor _ ((Shape.rowMajor_val_three (d := S8x1x64.size) _).trans
    (Eq.trans (by
      show ((y 0).val * 1 + 0) * 64 + (y 1).val = (y 0).val * 64 + (y 1).val
      omega) (Shape.rowMajor_val_two (d := S8x64.size) _).symm))

omit [FloatOps F] in
/-- Where an element of a worker's block lies in the result. -/
theorem oSl_emb (L : grid0.Coords) (y : S8x64.Idx) :
    (oSl L).view.emb y = ix3 (Fin.ofNat 16 (batchOf L + (y 0).val)) (Fin.ofNat 8 (setOf L)) (Fin.ofNat 128 (64 * halfOf L + (y 1).val)) := by
  have hs := setOf_lt L
  have hh := halfOf_lt L
  have hb := batchOf_le L
  have h0 : (y 0).val < 8 := (y 0).isLt
  have h1 : (y 1).val < 64 := (y 1).isLt
  show (Rect.unit (s := S16x8x128) (k0_off48 L) S8x1x64.size (k0_off48_inb L)).emb (Shape.reshapeEquiv _ y) = _
  rw [squeeze_mid]
  refine Rect.emb_eq_of_coords _ _ _ fun i => ?_
  have e := congrFun (off48_eq L) i
  show _ = k0_off48 L i + 1 * _
  rw [e]
  fin_cases i
  · show (batchOf L + (y 0).val) % 16 = batchOf L + 1 * (y 0).val; omega
  · show setOf L % 8 = setOf L + 1 * 0; omega
  · show (64 * halfOf L + (y 1).val) % 128 = 64 * halfOf L + 1 * (y 1).val; omega

/-- The finished output block, written out, is the result array on the tile's elements. -/
theorem oLand (L : grid0.Coords) (g : S16x20000x128.Idx → F .f32) (a : S8x64x128.Idx → F .f32) (fo : S16x8x128.Idx → F .f32) (fv : S8x64.Idx → F .f32)
    (h : ODone (aIn a (setOf L) (halfOf L)) (gIn g (batchOf L) (setOf L) (halfOf L)) fv 4) :
    ∀ i ∈ (oSl L).view.set, (oSl L).view.writes (Elt F) fo [⟨Rect.whole S8x64, fv⟩] i = outV g a i := by
  intro i hi
  obtain ⟨y, -, rfl⟩ := Finset.mem_map.mp hi
  have hs := setOf_lt L
  have hh := halfOf_lt L
  have hb := batchOf_le L
  have hd := batchOf_div L
  have h0 : (y 0).val < 8 := (y 0).isLt
  have h1 : (y 1).val < 64 := (y 1).isLt
  have hl : (oSl L).view.writes (Elt F) fo [⟨Rect.whole S8x64, fv⟩] ((oSl L).view.emb y) = fv y :=
    View.read_writes_cons_hit_of_coords (Val := Elt F) (oSl L).view fo (Rect.whole S8x64) fv [] y y fun i => by
      show _ = 0 + 1 * _; omega
  refine (hl.trans (h y (by omega))).trans ?_
  rw [oSl_emb]
  show _ = res (aIn a (setOf L % 8) ((64 * halfOf L + (y 1).val) % 128 / 64)) (gIn g ((batchOf L + (y 0).val) % 16 / 8 * 8) (setOf L % 8) ((64 * halfOf L + (y 1).val) % 128 / 64))
    (Fin.ofNat 8 ((batchOf L + (y 0).val) % 16)) ((64 * halfOf L + (y 1).val) % 128 % 64)
  rw [show setOf L % 8 = setOf L by omega, show (64 * halfOf L + (y 1).val) % 128 / 64 = halfOf L by omega,
    show (batchOf L + (y 0).val) % 16 / 8 * 8 = batchOf L by omega, show (64 * halfOf L + (y 1).val) % 128 % 64 = (y 1).val by omega,
    show (Fin.ofNat 8 ((batchOf L + (y 0).val) % 16) : Fin 8) = y 0 from Fin.ext (by show (batchOf L + (y 0).val) % 16 % 8 = (y 0).val; omega)]

section Tile

variable (d : Dev nD) (L : grid0.Coords)

/-- A tile's run: its share of the two inputs back as they were, its block of the result at the result's value. -/
theorem core_run (O : CellTallies nD τ sig (HIx 1)) (W : Waits sig (HIx 1)) (qa qg qh : PosShare TreeShare)
    (fa : Buf (Elt F) (aLoc d)) (fg : Buf (Elt F) (gLoc d)) (fo : Buf (Elt F) (oLoc d))
    (f5 : Buf (Elt F) ((V d (cV L) (jV L)).loc cc0_scratch0)) (f6 : Buf (Elt F) ((V d (cV L) (jV L)).loc cc0_scratch1))
    (f7 : Buf (Elt F) ((V d (cV L) (jV L)).loc cc0_scratch2)) (f8 : Buf (Elt F) ((V d (cV L) (jV L)).loc cc0_scratch3)) :
    iprop(Transfers.MayWaits (V d (cV L) (jV L)) (none : HIx 1) O
        ∗ ((aM).view.loc (V d (cV L) (jV L)) ↦{qa} fa)
        ∗ ((gM).view.loc (V d (cV L) (jV L)) ↦{qg} fg) ∗ ((gM).view.loc (V d (cV L) (jV L)) ↦{qh} fg)
        ∗ ((oSl L).view.loc (V d (cV L) (jV L)) ↦[(oSl L).view.set]{fullShare} fo)
        ∗ ((aV).view.loc (V d (cV L) (jV L)) ↦{fullShare} f5)
        ∗ ((gV).view.loc (V d (cV L) (jV L)) ↦[(gV).view.setOn rLo.set]{fullShare} f6)
        ∗ ((gV).view.loc (V d (cV L) (jV L)) ↦[(gV).view.setOn rHi.set]{fullShare} f6)
        ∗ ((oV).view.loc (V d (cV L) (jV L)) ↦{fullShare} f7)
        ∗ ((sV).view.loc (V d (cV L) (jV L)) ↦{fullShare} f8)
        ∗ semVal (V d (cV L) (jV L), SemLoc.dma cc0_scratch4.sem) 0
        ∗ semVal (V d (cV L) (jV L), SemLoc.dma cc0_scratch5.sem) 0
        ∗ semVal (V d (cV L) (jV L), SemLoc.dma cc0_scratch6.sem) 0
        ∗ semVal (V d (cV L) (jV L), SemLoc.dma cc0_scratch7.sem) 0
        ∗ owes (V d (cV L) (jV L)) O W)
      ⊢ wp frame (wpE (defs₀ (F := F)) 𝒱₀ (V d (cV L) (jV L)) none) Set.univ
          (cc0__agg_body (F := F) L gM (Memref.isWhole_whole _) aM (Memref.isWhole_whole _) oM (Memref.isWhole_whole _) aV (Memref.isWhole_whole _) gV (Memref.isWhole_whole _)
            oV (Memref.isWhole_whole _) sV (Memref.isWhole_whole _) cc0_scratch4 cc0_scratch5 cc0_scratch6 cc0_scratch7)
          fun _ => (iprop(((aM).view.loc (V d (cV L) (jV L)) ↦{qa} fa)
            ∗ ((gM).view.loc (V d (cV L) (jV L)) ↦{qg} fg) ∗ ((gM).view.loc (V d (cV L) (jV L)) ↦{qh} fg)
            ∗ ((oSl L).view.loc (V d (cV L) (jV L)) ↦[(oSl L).view.set]{fullShare} (outV (F := F) fg fa))
            ∗ (∃ f, (aV).view.loc (V d (cV L) (jV L)) ↦{fullShare} f)
            ∗ (∃ f, ((gV).view.loc (V d (cV L) (jV L)) ↦[(gV).view.setOn rLo.set]{fullShare} f)
              ∗ ((gV).view.loc (V d (cV L) (jV L)) ↦[(gV).view.setOn rHi.set]{fullShare} f))
            ∗ (∃ f, (oV).view.loc (V d (cV L) (jV L)) ↦{fullShare} f)
            ∗ (∃ f, (sV).view.loc (V d (cV L) (jV L)) ↦{fullShare} f)
            ∗ semVal (V d (cV L) (jV L), SemLoc.dma cc0_scratch4.sem) 0
            ∗ semVal (V d (cV L) (jV L), SemLoc.dma cc0_scratch5.sem) 0
            ∗ semVal (V d (cV L) (jV L), SemLoc.dma cc0_scratch6.sem) 0
            ∗ semVal (V d (cV L) (jV L), SemLoc.dma cc0_scratch7.sem) 0
            ∗ ∃ W', ⌜∀ p ∈ W', p ∈ W ∨ p.2 = none⌝ ∗ owes (V d (cV L) (jV L)) O W') : sProp 𝕄) := by
  rw [cc0__agg_body_eq_skeleton]
  unfold cc0__agg_body_skel
  rw [k0_part24_eq_skeleton, k0_part25_eq_skeleton]
  iintro ⟨Hmw, Ha, Hg, Hg', Ho, Hva, Hvlo, Hvhi, Hvo, Hvs, S4, S5, S6, S7, HO⟩
  sl_exec
  ihave Hva' := (Entails.of_eq (pointsTo_congr (g := aIn (F := F) fa (setOf L) (halfOf L)) (fun i _ => by
    rw [View.write_whole_univ]; exact congrFun (aSl_read (F := F) L fa) i))) $$ Hva
  ihave Hvlo' := (Entails.of_eq (pointsTo_congr (g := gIn (F := F) fg (batchOf L) (setOf L) (halfOf L)) (gLand (F := F) rLo f6 _ _ fun x =>
    gSl_read (F := F) L fg 0 (by omega) _ (k0_off2_inb L) (off2_eq L) x _ (by show 0 + 1 * _ = _; omega) (by show 0 + 1 * _ = _; omega) (by show 0 + 1 * _ = _; omega)))) $$ Hvlo
  sl_for (fun k (_ : _) => (iprop(((aV).view.loc (V d (cV L) (jV L)) ↦{fullShare} aIn (F := F) fa (setOf L) (halfOf L))
      ∗ ((gV).view.loc (V d (cV L) (jV L)) ↦[(gV).view.setOn rLo.set]{fullShare} gIn (F := F) fg (batchOf L) (setOf L) (halfOf L))
      ∗ ∃ fs, ⌜SDone (F := F) (aIn fa (setOf L) (halfOf L)) (gIn fg (batchOf L) (setOf L) (halfOf L)) fs k⌝ ∗ ((sV).view.loc (V d (cV L) (jV L)) ↦{fullShare} fs)) : sProp 𝕄)) $$ [Hva' Hvlo' Hvs]
  case region =>
    intro k r
    iintro ⟨Hva, Hvlo, %fs, %hs, Hvs⟩
    iapply (trip1 d L k _ _ _ fs hs)
    isplitl [Hva]; · iexact Hva
    isplitl [Hvlo]; · iexact Hvlo
    iexact Hvs
  · isplitl [Hva']; · iexact Hva'
    isplitl [Hvlo']; · iexact Hvlo'
    iexists _; isplitr; swap; · iexact Hvs
    ipureintro; exact fun y hy => absurd hy (by omega)
  iintro %r HI
  icases HI with ⟨Hva, Hvlo, %fs, %hs, Hvs⟩
  sl_exec
  ihave Hvhi' := (Entails.of_eq (pointsTo_congr (g := gIn (F := F) fg (batchOf L) (setOf L) (halfOf L)) (gLand (F := F) rHi f6 _ _ fun x =>
    gSl_read (F := F) L fg 32 (by omega) _ (k0_off3_inb L) (off3_eq L) x _ (by show 0 + 1 * _ = _; omega) (by show 32 + 1 * _ = _; omega) (by show 0 + 1 * _ = _; omega)))) $$ Hvhi
  sl_for (fun k (_ : _) => (iprop(((aV).view.loc (V d (cV L) (jV L)) ↦{fullShare} aIn (F := F) fa (setOf L) (halfOf L))
      ∗ ((gV).view.loc (V d (cV L) (jV L)) ↦[(gV).view.setOn rHi.set]{fullShare} gIn (F := F) fg (batchOf L) (setOf L) (halfOf L))
      ∗ ((sV).view.loc (V d (cV L) (jV L)) ↦{fullShare} fs)
      ∗ ∃ fv, ⌜ODone (F := F) (aIn fa (setOf L) (halfOf L)) (gIn fg (batchOf L) (setOf L) (halfOf L)) fv k⌝ ∗ ((oV).view.loc (V d (cV L) (jV L)) ↦{fullShare} fv)) : sProp 𝕄)) $$ [Hva Hvhi' Hvs Hvo]
  case region =>
    intro k r
    iintro ⟨Hva, Hvhi, Hvs, %fv, %ho, Hvo⟩
    iapply (trip3 d L k _ _ _ fs hs fv ho)
    isplitl [Hva]; · iexact Hva
    isplitl [Hvhi]; · iexact Hvhi
    isplitl [Hvs]; · iexact Hvs
    iexact Hvo
  · isplitl [Hva]; · iexact Hva
    isplitl [Hvhi']; · iexact Hvhi'
    isplitl [Hvs]; · iexact Hvs
    iexists _; isplitr; swap; · iexact Hvo
    ipureintro; exact fun y hy => absurd hy (by omega)
  iintro %r HI
  icases HI with ⟨Hva, Hvhi, Hvs, %fv, %ho, Hvo⟩
  sl_exec
  sl_step
  isplitl [Ha]; · iexact Ha
  isplitl [Hg]; · iexact Hg
  isplitl [Hg']; · iexact Hg'
  isplitl [Ho]; · iapply (Entails.of_eq (pointsTo_congr (oLand (F := F) L fg fa fo fv ho))); iexact Ho
  isplitl [Hva]; · iexists _; iexact Hva
  isplitl [Hvlo Hvhi]
  · iexists _; isplitl [Hvlo]; · iexact Hvlo
    iexact Hvhi
  isplitl [Hvo]; · iexists _; iexact Hvo
  isplitl [Hvs]; · iexists _; iexact Hvs
  isplitl [S4]; · iexact S4
  isplitl [S5]; · iexact S5
  isplitl [S6]; · iexact S6
  isplitl [S7]; · iexact S7
  iexists _; isplitr; swap; · iexact HO
  ipureintro
  intro p hp
  simp only [Finset.mem_insert] at hp
  rcases hp with rfl | rfl | rfl | rfl | hp
  · exact .inr rfl
  · exact .inr rfl
  · exact .inr rfl
  · exact .inr rfl
  · exact .inl hp

end Tile

end Cert.Proof.Agg
end
-- ==== Proof.Launch.lean ====
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Tactic
public import proofs.«01_k».proof.Proof.Gen.KernelIdeal
public import proofs.«01_k».proof.Proof.Gen.KernelIdeal.Skeleton
public import proofs.«01_k».proof.Proof.Tile

@[expose] public section

noncomputable section

namespace Cert.Proof.Agg

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop pointsTo_toks)
open Idealize.ShloMosaic.Tactic Idealize.ShloMosaic.ValueIdx

variable {F : FTy → Type} [FloatOps F]

/-- The handshakes' rounds library, the left factor; the transfers' counters are the right one. -/
abbrev EH : Emb UH (MT nD τ sig (HIx 1) (Elt F) ℕ UU ℕ) := embL

local notation "𝕄" => MT nD τ sig (HIx 1) (Elt F) ℕ UU ℕ

local notation "gM" => (Memref.whole Cert.KernelIdeal.main_arg0_scv : Memref Cert.KernelIdeal.sig Kind.scVector Space.hbm Cert.KernelIdeal.S16x20000x128 EltTy.f32)
local notation "aM" => (Memref.whole Cert.KernelIdeal.main_arg1_scv : Memref Cert.KernelIdeal.sig Kind.scVector Space.hbm Cert.KernelIdeal.S8x64x128 EltTy.f32)
local notation "oM" => (Memref.whole Cert.KernelIdeal.main_v0_scv : Memref Cert.KernelIdeal.sig Kind.scVector Space.hbm Cert.KernelIdeal.S16x8x128 EltTy.f32)
local notation "aV" => (Memref.whole Cert.KernelIdeal.cc0_scratch0 : Memref Cert.KernelIdeal.sig Kind.scVector Space.vmem Cert.KernelIdeal.S64x64 EltTy.f32)
local notation "gV" => (Memref.whole Cert.KernelIdeal.cc0_scratch1 : Memref Cert.KernelIdeal.sig Kind.scVector Space.vmem Cert.KernelIdeal.S8x64x64 EltTy.f32)
local notation "oV" => (Memref.whole Cert.KernelIdeal.cc0_scratch2 : Memref Cert.KernelIdeal.sig Kind.scVector Space.vmem Cert.KernelIdeal.S8x64 EltTy.f32)
local notation "sV" => (Memref.whole Cert.KernelIdeal.cc0_scratch3 : Memref Cert.KernelIdeal.sig Kind.scVector Space.vmem Cert.KernelIdeal.S9x64 EltTy.f32)

/-! ## The program as the launch theorem sees it -/

/-- The program's labels. -/
abbrev ΛP : Labels := Pipeline.Sig Λ₀ (Fin 0) fun p => (pcfgs (F := F) p).Adm
/-- The program's one SparseCore launch. -/
abbrev K : SparseCore.Cfg τ sig (ΛP (F := F)) 1 := sc (F := F)
/-- The launch uses two SparseCores. -/
theorem nCore_zero : (K (F := F)).nCore 0 = 2 := rfl
/-- The launch uses sixteen subcores of each. -/
theorem nSub_zero : (K (F := F)).nSub 0 = 16 := rfl
/-- The program's procedures. -/
abbrev D : Defs nD τ sig (Elt F) (ΛP (F := F)) := Pipeline.defs pcfgs defs₀
/-- The variants, lifted to the launch. -/
abbrev 𝒱 : Variants := 𝒱₀.lift
/-- The variant every thread starts from. -/
abbrev v₀ : 𝒱.V := Sum.inl none

/-- The launch's side conditions. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The result's blocks, one per tile -/

/-- The grid point of core `c` and subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The number of the tile that owns an element of the result. -/
def owner (y : S16x8x128.Idx) : ℕ := 16 * ((y 0).val / 8) + 8 * ((y 2).val / 64) + (y 1).val

/-- The elements a tile writes. -/
def blk (L : grid0.Coords) : Finset S16x8x128.Idx := (oSl L).view.set

/-- A worker's number is below 32. -/
theorem wid_lt : ∀ L : grid0.Coords, wid L < 32 := by decide +kernel

/-- An element of the result lies in a worker's block exactly when that worker owns it. -/
theorem mem_blk (L : grid0.Coords) (y : S16x8x128.Idx) : y ∈ blk L ↔ wid L = owner y := by
  have hw := wid_lt L
  have y0 : (y 0).val < 16 := (y 0).isLt
  have y1 : (y 1).val < 8 := (y 1).isLt
  have y2 : (y 2).val < 128 := (y 2).isLt
  unfold owner
  constructor
  · intro h
    obtain ⟨x, -, rfl⟩ := Finset.mem_map.mp h
    have x0 : (x 0).val < 8 := (x 0).isLt
    have x1 : (x 1).val < 64 := (x 1).isLt
    rw [oSl_emb]
    show wid L = 16 * ((batchOf L + (x 0).val) % 16 / 8) + 8 * ((64 * halfOf L + (x 1).val) % 128 / 64) + setOf L % 8
    unfold batchOf halfOf setOf
    omega
  · intro h
    refine Finset.mem_map.mpr ⟨ix2 (Fin.ofNat 8 (y 0).val) (Fin.ofNat 64 (y 2).val), Finset.mem_univ _, ?_⟩
    rw [oSl_emb]
    funext a
    fin_cases a
    · refine Fin.ext ?_
      show (batchOf L + (y 0).val % 8) % 16 = (y 0).val
      unfold batchOf; omega
    · refine Fin.ext ?_
      show setOf L % 8 = (y 1).val
      unfold setOf; omega
    · refine Fin.ext ?_
      show (64 * halfOf L + (y 2).val % 64) % 128 = (y 2).val
      unfold halfOf; omega

/-- The elements tile `i` of SparseCore `c` writes; -/
def tileSet (c : Fin 2) (i : Fin 16) : Finset S16x8x128.Idx := blk (coordsV c i)
/-- the elements the tiles of one SparseCore write. -/
def coreSet (c : Fin 2) : Finset S16x8x128.Idx := (Finset.univ : Finset (Fin 16)).biUnion (tileSet c)

/-- An element lies in a core's part exactly when its owner's number has the core's parity. -/
theorem mem_coreSet (c : Fin 2) (y : S16x8x128.Idx) : y ∈ coreSet c ↔ owner y % 2 = c.val := by
  have hc := c.isLt
  have y0 : (y 0).val < 16 := (y 0).isLt
  have y1 : (y 1).val < 8 := (y 1).isLt
  have y2 : (y 2).val < 128 := (y 2).isLt
  have ho : owner y < 32 := by unfold owner; omega
  unfold coreSet
  rw [Finset.mem_biUnion]
  constructor
  · rintro ⟨i, -, h⟩
    have h := (mem_blk _ _).mp h
    change 2 * i.val + c.val = _ at h
    omega
  · intro h
    refine ⟨⟨owner y / 2, by omega⟩, Finset.mem_univ _, (mem_blk _ _).mpr ?_⟩
    show 2 * (owner y / 2) + c.val = _
    omega

/-- The blocks of one core's subcores are pairwise disjoint. -/
theorem blk_disjoint (c : Fin 2) : ∀ i ∈ (Finset.univ : Finset (Fin 16)), ∀ j ∈ (Finset.univ : Finset (Fin 16)), i ≠ j →
    Disjoint (tileSet c i) (tileSet c j) := fun i _ j _ h => by
  refine Finset.disjoint_left.mpr fun y hi hj => h (Fin.ext ?_)
  have h1 := (mem_blk _ _).mp hi
  have h2 := (mem_blk _ _).mp hj
  change 2 * i.val + c.val = _ at h1
  change 2 * j.val + c.val = _ at h2
  omega

/-- The two cores' parts are disjoint. -/
theorem core_disjoint : ∀ c ∈ (Finset.univ : Finset (Fin 2)), ∀ c' ∈ (Finset.univ : Finset (Fin 2)), c ≠ c' → Disjoint (coreSet c) (coreSet c') :=
  fun c _ c' _ h => Finset.disjoint_left.mpr fun y h1 h2 => h (Fin.ext (((mem_coreSet c y).mp h1).symm.trans ((mem_coreSet c' y).mp h2)))

/-- The two cores' parts make up the result. -/
theorem core_cover : (Finset.univ : Finset (Fin 2)).biUnion coreSet = Finset.univ := by
  refine Finset.eq_univ_iff_forall.mpr fun y => Finset.mem_biUnion.mpr ⟨⟨owner y % 2, Nat.mod_lt _ (by omega)⟩, Finset.mem_univ _, (mem_coreSet _ _).mpr rfl⟩

/-! ## The two halves of the genes' scratch -/

/-- The low half of the genes' scratch is the rows below 32. -/
theorem mem_lo (y : S8x64x64.Idx) : y ∈ (gV).view.setOn rLo.set ↔ (y 1).val < 32 := by
  have y0 : (y 0).val < 8 := (y 0).isLt
  have y2 : (y 2).val < 64 := (y 2).isLt
  refine (View.mem_setOn (v := (gV).view) (M := rLo.set) (x := y)).trans ((rLo).mem_set.trans ⟨fun h => ?_, fun h a => ?_⟩)
  · obtain ⟨j, hj, e⟩ := h 1
    change j < 32 at hj
    change (y 1).val = 0 + 1 * j at e
    omega
  · fin_cases a
    · exact ⟨(y 0).val, y0, by show (y 0).val = 0 + 1 * _; omega⟩
    · exact ⟨(y 1).val, h, by show (y 1).val = 0 + 1 * _; omega⟩
    · exact ⟨(y 2).val, y2, by show (y 2).val = 0 + 1 * _; omega⟩

/-- The high half of the genes' scratch is the rows from 32 on. -/
theorem mem_hi (y : S8x64x64.Idx) : y ∈ (gV).view.setOn rHi.set ↔ 32 ≤ (y 1).val := by
  have y0 : (y 0).val < 8 := (y 0).isLt
  have y1 : (y 1).val < 64 := (y 1).isLt
  have y2 : (y 2).val < 64 := (y 2).isLt
  refine (View.mem_setOn (v := (gV).view) (M := rHi.set) (x := y)).trans ((rHi).mem_set.trans ⟨fun h => ?_, fun h a => ?_⟩)
  · obtain ⟨j, hj, e⟩ := h 1
    change (y 1).val = 32 + 1 * j at e
    omega
  · fin_cases a
    · exact ⟨(y 0).val, y0, by show (y 0).val = 0 + 1 * _; omega⟩
    · exact ⟨(y 1).val - 32, by show _ < 32; omega, by show (y 1).val = 32 + 1 * _; omega⟩
    · exact ⟨(y 2).val, y2, by show (y 2).val = 0 + 1 * _; omega⟩

/-- The two halves are disjoint. -/
theorem halves_disjoint : Disjoint ((gV).view.setOn rLo.set) ((gV).view.setOn rHi.set) :=
  Finset.disjoint_left.mpr fun y h1 h2 => absurd ((mem_lo y).mp h1) (not_lt.mpr ((mem_hi y).mp h2))

/-- The two halves make up the scratch. -/
theorem halves_cover : (gV).view.setOn rLo.set ∪ (gV).view.setOn rHi.set = Finset.univ :=
  Finset.eq_univ_iff_forall.mpr fun y => Finset.mem_union.mpr ((lt_or_ge (y 1).val 32).imp (mem_lo y).mpr (mem_hi y).mpr)

/-! ## What the handshakes carry -/

variable (m : (ℓ : Loc nD τ sig) → Buf (Elt F) ℓ) (ρ : Dev nD → PrngReg)

/-- The two inputs at their launch contents, at share `q`, and the elements `S` of the result at `f`. -/
def holds (d : Dev nD) (q : PosShare TreeShare) (S : Finset S16x8x128.Idx) (f : Buf (Elt F) (oLoc d)) : sProp 𝕄 :=
  iprop((aLoc d ↦{q} m (aLoc d)) ∗ (gLoc d ↦{q} m (gLoc d)) ∗ oLoc d ↦[S]{fullShare} f)

/-- What a handshake carries can be stored. -/
instance holds_storable (d : Dev nD) (q : PosShare TreeShare) (S : Finset S16x8x128.Idx) (f : Buf (Elt F) (oLoc d)) :
    BI.Storable (upEmb : UEmb _ 𝕄) (holds m d q S f) := by unfold holds; infer_instance

/-- The result the kernel leaves on device `d`. -/
def outR (d : Dev nD) : Buf (Elt F) (oLoc d) := outV (F := F) (m (gLoc d)) (m (aLoc d))

/-- The read share core `c` gets. -/
abbrev coreQ (c : ℕ) : PosShare TreeShare := shareTokN fullShare c
/-- The read share subcore `i` of core `c` gets. -/
abbrev tileQ (c i : ℕ) : PosShare TreeShare := shareTokN (coreQ c) i

/-- Each SparseCore takes a read share of the inputs and its tiles' elements of the result, each tile a share of that and
    its own elements; both come back with the elements at the result's value. -/
def P : (K (F := F)).Pay (nD := nD) (Val := Elt F) (Name := ℕ) (U := UU) where
  st := fun q d c => match q with | 0 => holds m d (coreQ c.val) (coreSet (Fin.cast nCore_zero c)) (m (oLoc d))
  dn := fun q d c => match q with | 0 => holds m d (coreQ c.val) (coreSet (Fin.cast nCore_zero c)) (outR m d)
  go := fun q d c i => match q with
    | 0 => holds m d (tileQ c.val i.val) (tileSet (Fin.cast nCore_zero c) (Fin.cast nSub_zero i)) (m (oLoc d))
  td := fun q d c i => match q with
    | 0 => holds m d (tileQ c.val i.val) (tileSet (Fin.cast nCore_zero c) (Fin.cast nSub_zero i)) (outR m d)
  x := fun _ _ => iprop(emp)

/-- Everything the handshakes carry can be stored. -/
instance P_storable : (P (F := F) m).IsStorable where
  st q d c := match q with | 0 => holds_storable m d _ _ _
  dn q d c := match q with | 0 => holds_storable m d _ _ _
  go q d c i := match q with | 0 => holds_storable m d _ _ _
  td q d c i := match q with | 0 => holds_storable m d _ _ _

/-! ## The task -/

section Tile

variable (d : Dev nD) (L : grid0.Coords)

/-- A tile's copy semaphore. -/
abbrev semC (s : DmaSem sig) : GSem nD τ sig := (V d (cV L) (jV L), SemLoc.dma s)

/-- A tile's semaphores at zero, one by one. -/
theorem ownSems0_V :
    (ownSems0 (V d (cV L) (jV L)) : sProp 𝕄)
      = iprop(semVal (semC d L cc0_scratch4.sem) 0 ∗ semVal (semC d L cc0_scratch5.sem) 0 ∗ semVal (semC d L cc0_scratch6.sem) 0 ∗ semVal (semC d L cc0_scratch7.sem) 0
          ∗ bigSep (((((ownCells (V d (cV L) (jV L))).erase (semC d L cc0_scratch4.sem)).erase (semC d L cc0_scratch5.sem)).erase (semC d L cc0_scratch6.sem)).erase
              (semC d L cc0_scratch7.sem)) fun g => semVal g 0) := by
  have hm : ∀ s : DmaSem sig, (SemLoc.dma s : SemLoc sig).isScoped .scVector = true → semC d L s ∈ ownCells (V d (cV L) (jV L)) :=
    fun s hs => mem_ownCells.mpr ⟨rfl, hs⟩
  have hn : ∀ s t : DmaSem sig, (SemLoc.dma s : SemLoc sig) ≠ SemLoc.dma t → semC d L s ≠ semC d L t := fun s t h e => h (Prod.mk.inj e).2
  unfold SparseCore.Cfg.ownSems0
  rw [SparseCore.bigSep_erase' (hm cc0_scratch4.sem (by decide)),
    SparseCore.bigSep_erase' (Finset.mem_erase.mpr ⟨hn cc0_scratch5.sem cc0_scratch4.sem (by decide), hm cc0_scratch5.sem (by decide)⟩),
    SparseCore.bigSep_erase' (Finset.mem_erase.mpr ⟨hn cc0_scratch6.sem cc0_scratch5.sem (by decide),
      Finset.mem_erase.mpr ⟨hn cc0_scratch6.sem cc0_scratch4.sem (by decide), hm cc0_scratch6.sem (by decide)⟩⟩),
    SparseCore.bigSep_erase' (Finset.mem_erase.mpr ⟨hn cc0_scratch7.sem cc0_scratch6.sem (by decide),
      Finset.mem_erase.mpr ⟨hn cc0_scratch7.sem cc0_scratch5.sem (by decide),
      Finset.mem_erase.mpr ⟨hn cc0_scratch7.sem cc0_scratch4.sem (by decide), hm cc0_scratch7.sem (by decide)⟩⟩⟩)]

/-- A tile's scratch buffer. -/
abbrev bufC (b : Ref sig .scVector) : DevRef τ sig := (Proc.scVector (cV L) (jV L)).devRef b

/-- The four scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase (bufC L cc0_scratch0)).erase (bufC L cc0_scratch1)).erase (bufC L cc0_scratch2)).erase
              (bufC L cc0_scratch3)) fun b => iprop(∃ f, ((d, b) : Loc nD τ sig) ↦{fullShare} f)) := by
  have hm : ∀ b : Ref sig .scVector, (bufC L b).owner = .proc (.scVector (cV L) (jV L)) → bufC L b ∈ ownRefs (τ := τ) (.scVector (cV L) (jV L)) :=
    fun b hb => SparseCore.Cfg.mem_ownRefs_of_owner hb
  have hn : ∀ b b' : Ref sig .scVector, b ≠ b' → bufC L b ≠ bufC L b' := fun b b' h e => h (Proc.devRef_injective _ e)
  unfold SparseCore.Cfg.ownBufs
  refine (SparseCore.bigSep_erase' (hm cc0_scratch0 rfl)).trans ?_
  rw [SparseCore.bigSep_erase' (Finset.mem_erase.mpr ⟨hn cc0_scratch1 cc0_scratch0 (by decide), hm cc0_scratch1 rfl⟩),
    SparseCore.bigSep_erase' (Finset.mem_erase.mpr ⟨hn cc0_scratch2 cc0_scratch1 (by decide),
      Finset.mem_erase.mpr ⟨hn cc0_scratch2 cc0_scratch0 (by decide), hm cc0_scratch2 rfl⟩⟩),
    SparseCore.bigSep_erase' (Finset.mem_erase.mpr ⟨hn cc0_scratch3 cc0_scratch2 (by decide),
      Finset.mem_erase.mpr ⟨hn cc0_scratch3 cc0_scratch1 (by decide),
      Finset.mem_erase.mpr ⟨hn cc0_scratch3 cc0_scratch0 (by decide), hm cc0_scratch3 rfl⟩⟩⟩)]

/-- Owning the genes' scratch is owning its two halves. -/
theorem pts_halves (f : Buf (Elt F) ((V d (cV L) (jV L)).loc cc0_scratch1)) :
    ((V d (cV L) (jV L)).loc cc0_scratch1 ↦{fullShare} f : sProp 𝕄)
      ⊣⊢ iprop(((gV).view.loc (V d (cV L) (jV L)) ↦[(gV).view.setOn rLo.set]{fullShare} f)
        ∗ ((gV).view.loc (V d (cV L) (jV L)) ↦[(gV).view.setOn rHi.set]{fullShare} f)) := by
  have h := pointsTo_union (Ix := HIx 1) (Name := ℕ) (U := UU) (Lvl := ℕ) (ℓ := (V d (cV L) (jV L)).loc cc0_scratch1) (q := fullShare) (f := f) halves_disjoint
  rw [halves_cover] at h
  exact h

/-- The task on vector subcore `(L 0, L 1)` of device `d`. -/
theorem tile_body (q : PosShare TreeShare) (O : CellTallies nD τ sig (HIx 1)) (W : Waits sig (HIx 1)) (hO : ∀ g, O g none = 0) :
    iprop(levAts (K (F := F)).L (K (F := F)).lev ∗ emp ∗ holds m d q (blk L) (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__agg_body (F := F) L gM (Memref.isWhole_whole _) aM (Memref.isWhole_whole _) oM (Memref.isWhole_whole _) aV (Memref.isWhole_whole _) gV (Memref.isWhole_whole _)
            oV (Memref.isWhole_whole _) sV (Memref.isWhole_whole _) cc0_scratch4 cc0_scratch5 cc0_scratch6 cc0_scratch7)
          fun _ => iprop(holds m d q (blk L) (outR m d) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V facts d (cV L) (jV L), SparseCore.Cfg.scopedSems0_V (Val := Elt F) d (cV L) (jV L), ownSems0_V, ownBufs_V]
  unfold holds
  iintro ⟨#Hlv, -, ⟨Ha, Hg, Ho⟩, ⟨⟨%f5, H5⟩, ⟨%f6, H6⟩, ⟨%f7, H7⟩, ⟨%f8, H8⟩, Hbufs⟩, ⟨S4, S5, S6, S7, Hsems⟩, HO⟩
  ihave Hmw := ((K (F := F)).mayWaits_none (thr := V d (cV L) (jV L)) hO) $$ Hlv
  ihave Hg2 := (pointsTo_share (PosShare.mem_left_op_right q)).1 $$ Hg
  icases Hg2 with ⟨Hg, Hg'⟩
  ihave H6' := (pts_halves (F := F) d L f6).1 $$ H6
  icases H6' with ⟨Hlo, Hhi⟩
  iapply wp_wand $$ [Hmw Ha Hg Hg' Ho H5 Hlo Hhi H7 H8 S4 S5 S6 S7 HO]
  · iapply (core_run d L O W q q.left q.right (m (aLoc d)) (m (gLoc d)) (m (oLoc d)) f5 f6 f7 f8)
    isplitl [Hmw]; · iexact Hmw
    isplitl [Ha]; · iexact Ha
    isplitl [Hg]; · iexact Hg
    isplitl [Hg']; · iexact Hg'
    isplitl [Ho]; · iexact Ho
    isplitl [H5]; · iexact H5
    isplitl [Hlo]; · iexact Hlo
    isplitl [Hhi]; · iexact Hhi
    isplitl [H7]; · iexact H7
    isplitl [H8]; · iexact H8
    isplitl [S4]; · iexact S4
    isplitl [S5]; · iexact S5
    isplitl [S6]; · iexact S6
    isplitl [S7]; · iexact S7
    iexact HO
  iintro %_ ⟨Ha, Hg, Hg', Ho, H5, ⟨%f6', Hlo, Hhi⟩, H7, H8, S4, S5, S6, S7, HO⟩
  isplitl [Ha Hg Hg' Ho]
  · isplitl [Ha]; · iexact Ha
    isplitl [Hg Hg']
    · iapply (pointsTo_share (PosShare.mem_left_op_right q)).2
      isplitl [Hg]; · iexact Hg
      iexact Hg'
    iexact Ho
  isplitl [H5 Hlo Hhi H7 H8 Hbufs]
  · isplitl [H5]; · iexact H5
    isplitl [Hlo Hhi]
    · iexists f6'
      iapply (pts_halves (F := F) d L f6').2
      isplitl [Hlo]; · iexact Hlo
      iexact Hhi
    isplitl [H7]; · iexact H7
    isplitl [H8]; · iexact H8
    iexact Hbufs
  isplitl [S4 S5 S6 S7 Hsems]
  · isplitl [S4]; · iexact S4
    isplitl [S5]; · iexact S5
    isplitl [S6]; · iexact S6
    isplitl [S7]; · iexact S7
    iexact Hsems
  iexact HO

end Tile

/-! ## The launch theorem's obligations -/

/-- What a vector subcore runs. -/
theorem defs₀_vector (c : Fin τ.nSC) (s : Fin τ.nSub) :
    defs₀ (F := F) (.scVector c s) 0 ()
      = SparseCore.onTile hcore0 hsub0 (fun c s => cc0__agg_body (coordsV c s)
          gM (Memref.isWhole_whole _) aM (Memref.isWhole_whole _) oM (Memref.isWhole_whole _) aV (Memref.isWhole_whole _) gV (Memref.isWhole_whole _)
            oV (Memref.isWhole_whole _) sV (Memref.isWhole_whole _) cc0_scratch4 cc0_scratch5 cc0_scratch6 cc0_scratch7) ⟨⟩ c s := rfl

/-- The tile's end, in the form the launch asks for. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile runs its body and hands back its block at the result's value. -/
theorem tileObl : (K (F := F)).TileObl (D (F := F)) 𝒱 (P m) v₀ 0 := by
  intro d c i O W hO _ _
  -- the kernel owes nothing for a protocol of its own (`Pay.ox` at its default)
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) (tileQ c.val i.val) O W hO).trans (wp_mono frame _ _ fun _ => obl_post)

/-- Inputs at a share and elements of the result, dealt to the parts of an index set; the remainder of the share stays. -/
theorem holds_deal (d : Dev nD) (q : PosShare TreeShare) (n : ℕ) (B : Fin n → Finset S16x8x128.Idx)
    (hB : ∀ i ∈ (Finset.univ : Finset (Fin n)), ∀ j ∈ (Finset.univ : Finset (Fin n)), i ≠ j → Disjoint (B i) (B j)) (f : Buf (Elt F) (oLoc d)) :
    holds m d q ((Finset.univ : Finset (Fin n)).biUnion B) f
      ⊣⊢ iprop(((aLoc d ↦{shareDrop q n} m (aLoc d)) ∗ (gLoc d ↦{shareDrop q n} m (gLoc d)))
        ∗ bigSep Finset.univ fun i : Fin n => holds m d (shareTokN q i.val) (B i) f) := by
  unfold holds
  rw [bigSep_sep', bigSep_sep', pointsTo_biUnion Finset.univ (ℓ := oLoc d) B hB]
  constructor
  · iintro ⟨Ha, Hg, Ho⟩
    ihave Ha := (pointsTo_toks q n).1 $$ Ha
    ihave Hg := (pointsTo_toks q n).1 $$ Hg
    icases Ha with ⟨Ha, Has⟩
    icases Hg with ⟨Hg, Hgs⟩
    isplitl [Ha Hg]
    · isplitl [Ha]; · iexact Ha
      iexact Hg
    isplitl [Has]; · iexact Has
    isplitl [Hgs]; · iexact Hgs
    iexact Ho
  · iintro ⟨⟨Ha, Hg⟩, Has, Hgs, Ho⟩
    isplitl [Ha Has]
    · iapply (pointsTo_toks q n).2
      isplitl [Ha]; · iexact Ha
      iexact Has
    isplitl [Hg Hgs]
    · iapply (pointsTo_toks q n).2
      isplitl [Hg]; · iexact Hg
      iexact Hgs
    iexact Ho

/-- A separating product over a core's tasks is one over sixteen subcores. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A core's part splits into its tiles' parts, and what they hand back joins into what the core hands back. -/
theorem vecSplit : (K (F := F)).VecSplit' (P m) 0 := by
  intro d c
  show holds m d (coreQ c.val) (coreSet (Fin.cast nCore_zero c)) (m (oLoc d)) ⊢ |={Set.univ}=> iprop(
      (bigSep Finset.univ fun i : Fin ((K (F := F)).nSub 0) =>
        holds m d (tileQ c.val (Fin.cast nSub_zero i).val) (tileSet (Fin.cast nCore_zero c) (Fin.cast nSub_zero i)) (m (oLoc d)))
      ∗ ((bigSep Finset.univ fun i : Fin ((K (F := F)).nSub 0) =>
          holds m d (tileQ c.val (Fin.cast nSub_zero i).val) (tileSet (Fin.cast nCore_zero c) (Fin.cast nSub_zero i)) (outR m d))
          -∗ holds m d (coreQ c.val) (coreSet (Fin.cast nCore_zero c)) (outR m d)))
  rw [bigSep_tasks (F := F) (fun i => holds m d (tileQ c.val i.val) (tileSet (Fin.cast nCore_zero c) i) (m (oLoc d))),
    bigSep_tasks (F := F) (fun i => holds m d (tileQ c.val i.val) (tileSet (Fin.cast nCore_zero c) i) (outR m d))]
  unfold coreSet
  iintro H
  ihave H := (holds_deal m d (coreQ c.val) 16 (tileSet (Fin.cast nCore_zero c)) (blk_disjoint _) (m (oLoc d))).1 $$ H
  icases H with ⟨Hrest, H⟩
  imodintro
  isplitl [H]; · iexact H
  iintro H
  iapply (holds_deal m d (coreQ c.val) 16 (tileSet (Fin.cast nCore_zero c)) (blk_disjoint _) (outR m d)).2
  isplitl [Hrest]; · iexact Hrest
  iexact H

/-! ## The launch element: the handshakes' rounds; nothing of the kernel's own -/

/-- The ghost state at launch. -/
def u₀ : UU := (initOf (K (F := F)).hsCells (K (F := F)).hsToks, 1)

/-- A separating product of nothing is nothing. -/
theorem bigSep_emp' {I : Type} (s : Finset I) : (bigSep s fun _ => iprop(emp)) = (iprop(emp) : sProp 𝕄) := bigSep_emp_const s

/-- The launch's ghost state gives every handshake its start. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- A TensorCore's buffers are the two arguments and the result. -/
theorem unscopedBufs_eq (d : Dev nD) (W : (b : Ref sig .tc) → Buf (Elt F) ((d.tc : Thread nD τ).loc b)) :
    (unscopedBufs d W : sProp 𝕄) = iprop((gLoc d ↦{fullShare} W main_arg0) ∗ (aLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- A separating product over the launch's cores is one over two. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- What the call hands its cores. -/
theorem st0_eq (d : Dev nD) : (bigSep Finset.univ fun c : Fin ((K (F := F)).nCore 0) => (P m).st 0 d c)
    = bigSep Finset.univ fun c : Fin 2 => holds m d (coreQ c.val) (coreSet c) (m (oLoc d)) :=
  bigSep_cores (fun c => holds m d (coreQ c.val) (coreSet c) (m (oLoc d)))
/-- What the call's cores hand back. -/
theorem dn0_eq (d : Dev nD) : (bigSep Finset.univ fun c : Fin ((K (F := F)).nCore 0) => (P m).dn 0 d c)
    = bigSep Finset.univ fun c : Fin 2 => holds m d (coreQ c.val) (coreSet c) (outR m d) :=
  bigSep_cores (fun c => holds m d (coreQ c.val) (coreSet c) (outR m d))

/-- Owning the three arrays whole is holding the two cores' parts together. -/
theorem holds_univ (d : Dev nD) (f : Buf (Elt F) (oLoc d)) :
    iprop((aLoc d ↦{fullShare} m (aLoc d)) ∗ (gLoc d ↦{fullShare} m (gLoc d)) ∗ oLoc d ↦{fullShare} f)
      = (holds m d fullShare ((Finset.univ : Finset (Fin 2)).biUnion coreSet) f : sProp 𝕄) := by
  rw [core_cover]; rfl

/-- What @main leaves the claim: both inputs as they were, the result at its value. -/
abbrev FIN (d : Dev nD) : sProp 𝕄 := iprop((aLoc d ↦{fullShare} m (aLoc d)) ∗ (gLoc d ↦{fullShare} m (gLoc d)) ∗ oLoc d ↦{fullShare} outR m d)

/-- @main on device `d`'s TensorCore: the one call, each SparseCore handed its part and taken back. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hg, Ha, Ho⟩, Hts, -⟩, -⟩
  ihave H := ((Entails.of_eq (holds_univ m d (m (oLoc d)))).trans (holds_deal m d fullShare 2 coreSet core_disjoint (m (oLoc d))).1) $$ [Ha Hg Ho]
  · isplitl [Ha]; · iexact Ha
    isplitl [Hg]; · iexact Hg
    iexact Ho
  icases H with ⟨Hrest, H⟩
  iapply ((K (F := F)).wp_run (D (F := F)) 𝒱 (EH := EH) (P := P m) κ d 0) $$ [Hst H Hb Hts Hrest]
  isplitr; · iexact Hctx
  isplitl [Hst]; · iexact Hst
  isplitl [H]; · rw [st0_eq]; iexact H
  iintro ⟨Hst, Hdn⟩
  ihave Hdn' := (Entails.of_eq (dn0_eq m d)) $$ Hdn
  imodintro
  isplitl [Hst]; · iexact Hst
  isplitr [Hb Hts]
  · iapply ((holds_deal m d fullShare 2 coreSet core_disjoint (outR m d)).2.trans (Entails.of_eq (holds_univ m d (outR m d)).symm))
    isplitl [Hrest]; · iexact Hrest
    iexact Hdn'
  isplitl [Hb] <;> iassumption

/-- What the final memory says of one device's three arrays. -/
def fq (d : Dev nD) (s' : Phys nD τ sig (Elt F)) : Prop :=
  s'.mem.mem (oLoc d) = outR m d ∧ s'.mem.mem (gLoc d) = m (gLoc d) ∧ s'.mem.mem (aLoc d) = m (aLoc d)

/-- Owning the three arrays at the end fixes the final memory there. -/
theorem hfin (d : Dev nD) (s' : Phys nD τ sig (Elt F)) : iprop(FIN m d ∗ SI s') ⊢ (⌜fq m d s'⌝ : sProp 𝕄) := by
  iintro ⟨⟨Ha, Hg, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := gLoc d) (I := Finset.univ) (q := fullShare) (f := m (gLoc d)))) $$ [HSI Hg]
  · isplitl [HSI] <;> iassumption
  icases H with ⟨%h2, HSI, -⟩
  ihave H := (SI_pointsTo_agree (st := s') (ℓ := oLoc d) (I := Finset.univ) (q := fullShare) (f := outR m d)) $$ [HSI Ho]
  · isplitl [HSI] <;> iassumption
  icases H with %h3
  ipureintro
  exact ⟨funext fun i => h3 i (Finset.mem_univ i), funext fun i => h2 i (Finset.mem_univ i), funext fun i => h1 i (Finset.mem_univ i)⟩

/-! ## The program's run -/

/-- The run's end: the result at its value, both inputs as they were, every semaphore at zero. -/
def QC : PUnit × MemSt nD τ sig (Elt F) → Prop := fun r =>
  (∀ c : Dev nD, r.2.mem (oLoc c) = outR m c ∧ r.2.mem (gLoc c) = m (gLoc c) ∧ r.2.mem (aLoc c) = m (aLoc c)) ∧ r.2.sem = fun _ => 0

/-- The whole program, over any float values: it ends, and at its end `QC` holds. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Agg
end
-- ==== Proof.Algebra.lean ====
module

public import Idealize.ShloMosaic.PureOps.Ideal.Laws
public import Idealize.ShloMosaic.Lib.IdealHost
public import proofs.«01_k».proof.Proof.Values

@[expose] public section

/-! The identity between the two spellings of a weighted mean over extended reals: weights that are exponentials
shifted by their greatest argument and divided by their sum before the products are added, against plain exponentials
whose products are added and multiplied by the reciprocal of the exponentials' sum at the end. The weights' arguments
are reals; what they multiply is any extended real. -/

noncomputable section

namespace Cert.Proof.Agg

open Idealize.ShloMosaic
open scoped BigOperators

/-- The kernel's ordered sum is, over the extended reals, the sum. -/
theorem fold_ideal (t : ℕ → Ideal .f32) (n : ℕ) : fold (F := Ideal) t n = ∑ k : Fin n, t k.val := by
  induction n with
  | zero => exact Ideal.ofBits_zero_f32
  | succ n ih =>
    rw [Fin.sum_univ_castSucc]
    exact congrArg (fun z : EReal => z + t n) ih

/-- A nonnegative real factor on the right of a finite sum of extended reals goes to each term. -/
theorem sum_mul_real {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hc) (EReal.coe_ne_top c) _ _

/-- A finite sum of reals read as extended reals is the real sum read so. -/
theorem sum_real {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The quotient of reals by a real that is not zero is the real quotient. -/
theorem div_real (x : ℝ) {y : ℝ} (hy : y ≠ 0) : Ideal.div (x : EReal) (y : EReal) = ((x / y : ℝ) : EReal) := by
  unfold Ideal.div
  rw [if_neg (fun h => hy (EReal.coe_eq_zero.mp h)), ← EReal.coe_inv, ← EReal.coe_mul, div_eq_mul_inv]

/-- The exponential of a real is the real exponential. -/
theorem exp_real (x : ℝ) : Ideal.exp (x : EReal) = ((Real.exp x : ℝ) : EReal) := rfl

/-- THE IDENTITY: the mean of `g` under the softmax of `a`, however far `a` is shifted, is the sum of `exp a · g` times
the reciprocal of the sum of `exp a`. -/
theorem softmax_mean {n : ℕ} (hn : 0 < n) (a : Fin n → ℝ) (g : Fin n → EReal) (M : ℝ) :
    ∑ k, g k * Ideal.div (Ideal.exp ((a k : EReal) - (M : EReal))) (∑ j, Ideal.exp ((a j : EReal) - (M : EReal)))
      = (∑ k, Ideal.exp (a k : EReal) * g k) * Ideal.div 1 (∑ j, Ideal.exp (a j : EReal)) := by
  haveI : Nonempty (Fin n) := ⟨⟨0, hn⟩⟩
  have hs : (0 : ℝ) < ∑ j, Real.exp (a j) := Finset.sum_pos (fun _ _ => Real.exp_pos _) Finset.univ_nonempty
  have hshift : ∀ k, Real.exp (a k - M) = Real.exp (a k) * Real.exp (-M) := fun k => by rw [← Real.exp_add, sub_eq_add_neg]
  have hs' : ∑ j, Real.exp (a j - M) = (∑ j, Real.exp (a j)) * Real.exp (-M) := by
    rw [Finset.sum_mul]; exact Finset.sum_congr rfl fun k _ => hshift k
  have hM := Real.exp_pos (-M)
  have hl : ∑ j, Ideal.exp ((a j : EReal) - (M : EReal)) = ((∑ j, Real.exp (a j - M) : ℝ) : EReal) := by
    rw [← sum_real]; exact Finset.sum_congr rfl fun k _ => by rw [← EReal.coe_sub, exp_real]
  have hr : ∑ j, Ideal.exp (a j : EReal) = ((∑ j, Real.exp (a j) : ℝ) : EReal) := by
    rw [← sum_real]; exact Finset.sum_congr rfl fun k _ => exp_real _
  rw [hl, hr, hs', ← EReal.coe_one, div_real 1 hs.ne', sum_mul_real _ _ (by positivity)]
  refine Finset.sum_congr rfl fun k _ => ?_
  rw [← EReal.coe_sub, exp_real, exp_real, div_real _ (by positivity), mul_comm _ (g k), mul_assoc, ← EReal.coe_mul, hshift]
  congr 2
  field_simp

end Cert.Proof.Agg

end
-- ==== Proof.Ref.lean ====
module

public import proofs.«01_k».proof.Defs
public import Idealize.ShloMosaic.Lib.Pointwise
public import Idealize.ShloMosaic.Lib.ReduceAll
public import Idealize.ShloMosaic.Lib.IdealHost
public import proofs.«01_k».proof.Proof.Gen.ReferenceIdeal
public import proofs.«01_k».proof.Proof.Gen.ReferenceIdeal.Run

@[expose] public section

/-! The reference's result read at an index, over the extended reals: the index table `100 · s + l`, the take it drives,
the softmax of the weights, and the sum over a set's 64 genes. -/

noncomputable section

namespace Cert.Proof.Agg.Ref

open Cert.ReferenceIdeal Cert.ReferenceIdeal.Gen
open Idealize.ShloMosaic Idealize.ShloMosaic.StableHlo
open scoped BigOperators

/-- The index table: gene `l` of set `s` is row `100 · s + l`. -/
def table : IVec S8x64 32 :=
  addi (broadcastInDim S8x64 ![0, 1] bcast_S8x1_S8x64_0_1 (muli (broadcastInDim S8x1 ![0] bcast_S8_S8x1_0 (iotaInDim S8 32 0)) (broadcastInDim S8x1 ![] bcast_S_S8x1 (constantI S_ 32 100#32))))
    (broadcastInDim S8x64 ![0, 1] bcast_S1x64_S8x64_0_1 (broadcastInDim S1x64 ![1] bcast_S64_S1x64_1 (iotaInDim S64 32 0)))

/-- The take's start indices: the table with a negative entry counted from the end. -/
def starts : IVec S8x64x1 32 :=
  broadcastInDim S8x64x1 ![0, 1] bcast_S8x64_S8x64x1_0_1 (select (cmpi .slt table (broadcastInDim S8x64 ![] bcast_S_S8x64 (constantI S_ 32 0#32)))
    (addi table (broadcastInDim S8x64 ![] bcast_S_S8x64 (constantI S_ 32 20000#32))) table)

/-- Whether a start index lies inside the gene axis, before the reduction over the index vector. -/
def inside : IVec S8x64x1 1 :=
  andi (cmpi .sge starts (broadcastInDim S8x64x1 ![] bcast_S_S8x64x1 (constantI S_ 32 0#32)))
    (cmpi .sle starts (broadcastInDim S8x64x1 ![0, 1, 2] bcast_S1x1x1_S8x64x1_0_1_2 (broadcastInDim S1x1x1 ![2] bcast_S1_S1x1x1_2 (constantI S1 32 19999#32))))

/-- Whether each start index lies inside the gene axis. -/
def mask : IVec S8x64 1 := Host.reduce IntOp.andi inside (constantI S_ 1 1#1) reducesTo_S8x64x1_S8x64_d2 h_S_

/-- The genes of each set, taken. -/
def taken (g : FVec Ideal S16x20000x128 .f32) : FVec Ideal S16x8x64x128 .f32 :=
  select (broadcastInDim S16x8x64x128 ![1, 2] bcast_S8x64_S16x8x64x128_1_2 mask)
    (Host.gather gather_S16x20000x128_S8x64x1_S16x8x64x128_03_1_n_n_1_2_161128 g starts)
    (broadcastInDim S16x8x64x128 ![] bcast_S_S16x8x64x128 (constant S_ .f32 0x7FC00000#32))

/-- The greatest weight of each set and column. -/
def top (a : FVec Ideal S8x64x128 .f32) : FVec Ideal S8x128 .f32 :=
  maximumf (broadcastInDim S8x128 ![] bcast_S_S8x128 (constant S_ .f32 0xFF800000#32))
    (Host.reduce FloatOps.maximumf a (constant S_ .f32 0xFF800000#32) reducesTo_S8x64x128_S8x128_d1 h_S_)

/-- The exponentials of the weights, shifted by their greatest. -/
def shifted (a : FVec Ideal S8x64x128 .f32) : FVec Ideal S8x64x128 .f32 :=
  Host.exp (subf a (broadcastInDim S8x64x128 ![0, 1, 2] bcast_S8x1x128_S8x64x128_0_1_2 (broadcastInDim S8x1x128 ![0, 2] bcast_S8x128_S8x1x128_0_2 (top a))))

/-- The softmax of the weights along the genes of a set. -/
def soft (a : FVec Ideal S8x64x128 .f32) : FVec Ideal S8x64x128 .f32 :=
  Host.divf (shifted a) (broadcastInDim S8x64x128 ![0, 1, 2] bcast_S8x1x128_S8x64x128_0_1_2 (broadcastInDim S8x1x128 ![0, 2] bcast_S8x128_S8x1x128_0_2
    (Host.reduceAdd (shifted a) (constant S_ .f32 0x00000000#32) reducesTo_S8x64x128_S8x128_d1 h_S_)))

/-- The reference's result of its two arguments. -/
def out (g : FVec Ideal S16x20000x128 .f32) (a : FVec Ideal S8x64x128 .f32) : FVec Ideal S16x8x128 .f32 :=
  Host.reduceAdd (mulf (taken g) (broadcastInDim S16x8x64x128 ![0, 1, 2, 3] bcast_S1x8x64x128_S16x8x64x128_0_1_2_3 (broadcastInDim S1x8x64x128 ![1, 2, 3] bcast_S8x64x128_S1x8x64x128_1_2_3 (soft a))))
    (constant S_ .f32 0x00000000#32) reducesTo_S16x8x64x128_S16x8x128_d2 h_S_

/-- The run's result term is `out` of the arguments. -/
theorem res_eq (m : (ℓ : Loc nD τ sig) → Buf (Elt Ideal) ℓ) (c : Dev nD) :
    Value.res_out0 m c = out (m ((c.tc : Thread nD τ).loc main_arg0)) (m ((c.tc : Thread nD τ).loc main_arg1)) := rfl

/-- A start index is its row. -/
theorem starts_apply : ∀ (s : Fin 8) (l : Fin 64), starts (ix3 s l (0 : Fin 1)) = BitVec.ofNat 32 (100 * s.val + l.val) := by
  decide +kernel

/-- Every start index lies in `[0, 19999]`. -/
theorem inside_apply : ∀ (s : Fin 8) (l : Fin 64), inside (ix3 s l (0 : Fin 1)) = 1#1 := by
  decide +kernel

/-- Every start index is inside. -/
theorem mask_apply (j : S8x64.Idx) : mask j = 1#1 :=
  Host.reduce_andi_one _ _ _ _ _ rfl fun i => by
    have h : i = ix3 (i 0 : Fin 8) (i 1 : Fin 64) (0 : Fin 1) := by
      funext a
      match a with
      | ⟨0, _⟩ => rfl
      | ⟨1, _⟩ => rfl
      | ⟨2, _⟩ => exact Subsingleton.elim (α := Fin 1) _ _
    exact (congrArg inside h).trans (inside_apply (i 0) (i 1))

/-- The take's dimension numbers. -/
abbrev gd : GatherDims S16x20000x128 S8x64x1 S16x8x64x128 := gather_S16x20000x128_S8x64x1_S16x8x64x128_03_1_n_n_1_2_161128

/-- The take read at an index: batch `b`, row `100 · s + l`, column `c`. -/
theorem gather_row (g : FVec Ideal S16x20000x128 .f32) (b : Fin 16) (s : Fin 8) (l : Fin 64) (c : Fin 128) :
    Host.gather gd g starts (ix4 b s l c)
      = g (ix3 b (Fin.ofNat 20000 (100 * s.val + l.val)) c) := by
  unfold Host.gather
  refine congrArg g ?_
  have hs := s.isLt
  have hl := l.isLt
  funext a
  refine Fin.ext ?_
  show gd.start (ix4 b s l c) starts a + gd.batchCoord (ix4 b s l c) a + gd.offCoord (ix4 b s l c) a = _
  rw [GatherDims.batchCoord_eq_zero _ _ _ List.not_mem_nil, Nat.add_zero]
  match a with
  | ⟨0, _⟩ =>
    show gd.start (ix4 b s l c) starts 0 + gd.offCoord (ix4 b s l c) 0 = b.val
    have h0 : gd.start (ix4 b s l c) starts 0 = 0 := dif_neg (by decide)
    have h1 : gd.offCoord (ix4 b s l c) 0 = b.val := rfl
    rw [h0, h1, Nat.zero_add]
  | ⟨2, _⟩ =>
    show gd.start (ix4 b s l c) starts 2 + gd.offCoord (ix4 b s l c) 2 = c.val
    have h0 : gd.start (ix4 b s l c) starts 2 = 0 := dif_neg (by decide)
    have h1 : gd.offCoord (ix4 b s l c) 2 = c.val := rfl
    rw [h0, h1, Nat.zero_add]
  | ⟨1, _⟩ =>
    show gd.start (ix4 b s l c) starts 1 + gd.offCoord (ix4 b s l c) 1 = (100 * s.val + l.val) % 20000
    have h1 : gd.offCoord (ix4 b s l c) 1 = 0 := dif_neg (by decide)
    have hsi : gd.siIdx (ix4 b s l c) ⟨List.idxOf (1 : Fin 3) gd.startIndexMap, List.idxOf_lt_length_iff.2 (List.mem_singleton.mpr rfl)⟩
        = ix3 s l (0 : Fin 1) := by
      funext e
      refine Fin.ext ?_
      match e with
      | ⟨0, _⟩ => rfl
      | ⟨1, _⟩ => rfl
      | ⟨2, _⟩ => rfl
    have h0 : gd.start (ix4 b s l c) starts 1 = min (BitVec.ofNat 32 (100 * s.val + l.val)).toInt.toNat 19999 :=
      (dif_pos (List.mem_singleton.mpr rfl)).trans
        (congrArg (fun w : BitVec 32 => min w.toInt.toNat 19999) ((congrArg starts hsi).trans (starts_apply s l)))
    have hw : (BitVec.ofNat 32 (100 * s.val + l.val)).toInt.toNat = 100 * s.val + l.val := by
      have hn : (BitVec.ofNat 32 (100 * s.val + l.val)).toNat = 100 * s.val + l.val := by
        rw [BitVec.toNat_ofNat]; exact Nat.mod_eq_of_lt (by omega)
      rw [BitVec.toInt_eq_toNat_of_lt (by rw [hn]; omega), hn, Int.toNat_natCast]
    rw [h0, h1, hw]
    omega

/-- The pattern of negative infinity is the least extended real. -/
theorem ofBits_neg_inf : Ideal.ofBits .f32 0xFF800000#32 = ⊥ := by simp [Ideal.ofBits, Ideal.ieee]

/-- The pattern of infinity is the greatest extended real. -/
theorem ofBits_inf : Ideal.ofBits .f32 0x7F800000#32 = ⊤ := by simp [Ideal.ofBits, Ideal.ieee]

/-- The greatest weight read at an index. -/
theorem top_apply (a : FVec Ideal S8x64x128 .f32) (s : Fin 8) (c : Fin 128) :
    top a (ix2 s c) = (Finset.univ : Finset (Fin 64)).fold max ⊥ (fun k => a (ix3 s k c)) := by
  pointwise [top]
  rw [ofBits_neg_inf, bot_sup_eq]

/-- A shifted exponential read at an index. -/
theorem shifted_apply (a : FVec Ideal S8x64x128 .f32) (s : Fin 8) (l : Fin 64) (c : Fin 128) :
    shifted a (ix3 s l c) = Ideal.exp (a (ix3 s l c) - top a (ix2 s c)) := by
  pointwise [shifted]

/-- The softmax read at an index. -/
theorem soft_apply (a : FVec Ideal S8x64x128 .f32) (s : Fin 8) (l : Fin 64) (c : Fin 128) :
    soft a (ix3 s l c) = Ideal.div (shifted a (ix3 s l c)) (∑ k : Fin 64, shifted a (ix3 s k c)) := by
  pointwise [soft]

/-- The result read at an index: the sum over a set's genes of gene value times softmax weight. -/
theorem out_apply (g : FVec Ideal S16x20000x128 .f32) (a : FVec Ideal S8x64x128 .f32) (b : Fin 16) (s : Fin 8) (c : Fin 128) :
    out g a (ix3 b s c) = ∑ k : Fin 64, g (ix3 b (Fin.ofNat 20000 (100 * s.val + k.val)) c) * soft a (ix3 s k c) := by
  pointwise [out, taken]
  refine Finset.sum_congr rfl fun k _ => ?_
  rw [mask_apply]
  exact congrArg (· * soft a (ix3 s k c)) (gather_row g b s k c)

/-- The greatest of finitely many reals, one at least, is a real. -/
theorem max_real {n : ℕ} (x : Fin n → ℝ) (s : Finset (Fin n)) (hs : s.Nonempty) :
    ∃ r : ℝ, s.fold max (⊥ : EReal) (fun k => (x k : EReal)) = (r : EReal) := by
  induction hs using Finset.Nonempty.cons_induction with
  | singleton k => exact ⟨x k, by simp⟩
  | cons k s hk _ ih =>
    obtain ⟨r, hr⟩ := ih
    refine ⟨max (x k) r, ?_⟩
    rw [Finset.fold_cons, hr]
    exact (EReal.coe_strictMono.monotone.map_max).symm

end Cert.Proof.Agg.Ref

end
-- ==== Proof.Value.lean ====
module

public import proofs.«01_k».proof.Defs
public import proofs.«01_k».proof.Proof.Gen.Pre_finite_weights
public import proofs.«01_k».proof.Proof.Algebra
public import proofs.«01_k».proof.Proof.Ref
public import proofs.«01_k».proof.Proof.Tile

@[expose] public section

/-! The kernel's result is the reference's, over the extended reals, when the weights are finite. -/

noncomputable section

namespace Cert.Proof.Agg

open Cert.KernelIdeal Cert.KernelIdeal.Gen
open Idealize.ShloMosaic
open scoped BigOperators

/-- What the precondition says of the weights: each one is a real. -/
theorem weights_real (g : FVec Ideal S16x20000x128 .f32) (a : FVec Ideal S8x64x128 .f32)
    (h : Cert.Pre_finite_weights.fn (F := Ideal) g a = fun _ => 1#1) (i : S8x64x128.Idx) : ∃ r : ℝ, a i = (r : EReal) := by
  haveI : Subsingleton Cert.Pre_finite_weights.S_.Idx := ⟨fun x y => funext fun k => k.elim0⟩
  have e := Host.reduce_andi_all _ _ _ _ _ (congrFun h ValueIdx.ix0) i
  have e' : Ideal.cmp .olt (max (a i) (-(a i))) (Ideal.ofBits .f32 0x7F800000#32) = 1#1 := e
  rw [Ref.ofBits_inf] at e'
  have hlt : max (a i) (-(a i)) < ⊤ := by
    by_contra hn
    simp [Ideal.cmp, hn] at e'
  induction hx : a i using EReal.rec with
  | bot => rw [hx] at hlt; simp at hlt
  | coe r => exact ⟨r, rfl⟩
  | top => rw [hx] at hlt; simp at hlt

/-- THE VALUE: at finite weights the kernel's result array is the reference's. -/
theorem outV_eq (g : FVec Ideal S16x20000x128 .f32) (a : FVec Ideal S8x64x128 .f32) (h : ∀ i, ∃ r : ℝ, a i = (r : EReal)) :
    outV (F := Ideal) g a = Ref.out g a := by
  funext y
  obtain ⟨b, s, c, rfl⟩ : ∃ (b : Fin 16) (s : Fin 8) (c : Fin 128), y = ix3 b s c := ⟨y 0, y 1, y 2, eq_ix3 y⟩
  choose w hw using fun k : Fin 64 => h (ix3 s k c)
  obtain ⟨M, hM⟩ := Ref.max_real w Finset.univ Finset.univ_nonempty
  have htop : Ref.top a (ix2 s c) = (M : EReal) := by
    rw [Ref.top_apply, ← hM]; exact congrArg (fun f => Finset.univ.fold max ⊥ f) (funext hw)
  have hshift : ∀ k : Fin 64, Ref.shifted a (ix3 s k c) = Ideal.exp ((w k : EReal) - (M : EReal)) := fun k => by
    rw [Ref.shifted_apply, htop, hw]
  have hright : Ref.out g a (ix3 b s c)
      = ∑ k : Fin 64, g (ix3 b (Fin.ofNat 20000 (100 * s.val + k.val)) c)
          * Ideal.div (Ideal.exp ((w k : EReal) - (M : EReal))) (∑ j : Fin 64, Ideal.exp ((w j : EReal) - (M : EReal))) := by
    rw [Ref.out_apply]
    refine Finset.sum_congr rfl fun k _ => ?_
    rw [Ref.soft_apply, hshift]
    exact congrArg (fun z => _ * Ideal.div _ z) (Finset.sum_congr rfl fun j _ => hshift j)
  rw [hright, softmax_mean (by decide) w _ M]
  have hb := b.isLt
  have hs := s.isLt
  have hc := c.isLt
  have hA : ∀ k : Fin 64, wAt (F := Ideal) (aIn (F := Ideal) a s.val (c.val / 64)) k.val (c.val % 64) = (w k : EReal) := fun k => by
    rw [← hw k]
    unfold wAt aIn
    refine congrArg a ?_
    funext e
    refine Fin.ext ?_
    match e with
    | ⟨0, _⟩ => show s.val % 8 = s.val; omega
    | ⟨1, _⟩ => show k.val % 64 = k.val; omega
    | ⟨2, _⟩ => show (64 * (c.val / 64) + c.val % 64 % 64) % 128 = c.val; omega
  have hG : ∀ k : Fin 64, gAt (F := Ideal) (gIn (F := Ideal) g (b.val / 8 * 8) s.val (c.val / 64)) (Fin.ofNat 8 b.val) k.val (c.val % 64)
      = g (ix3 b (Fin.ofNat 20000 (100 * s.val + k.val)) c) := fun k => by
    have hk := k.isLt
    unfold gAt gIn
    refine congrArg g ?_
    funext e
    refine Fin.ext ?_
    match e with
    | ⟨0, _⟩ => show (b.val / 8 * 8 + b.val % 8) % 16 = b.val; omega
    | ⟨1, _⟩ => show (100 * s.val + k.val % 64) % 20000 = (100 * s.val + k.val) % 20000; omega
    | ⟨2, _⟩ => show (64 * (c.val / 64) + c.val % 64 % 64) % 128 = c.val; omega
  have h0 : acc (F := Ideal) (aIn (F := Ideal) a s.val (c.val / 64)) (gIn (F := Ideal) g (b.val / 8 * 8) s.val (c.val / 64)) 0 (c.val % 64) 64
      = ∑ j : Fin 64, Ideal.exp (w j : EReal) :=
    (fold_ideal _ 64).trans (Finset.sum_congr rfl fun k _ => congrArg Ideal.exp (hA k))
  have h1 : acc (F := Ideal) (aIn (F := Ideal) a s.val (c.val / 64)) (gIn (F := Ideal) g (b.val / 8 * 8) s.val (c.val / 64)) (Fin.ofNat 8 b.val).succ (c.val % 64) 64
      = ∑ k : Fin 64, Ideal.exp (w k : EReal) * g (ix3 b (Fin.ofNat 20000 (100 * s.val + k.val)) c) :=
    (fold_ideal _ 64).trans (Finset.sum_congr rfl fun k _ => congrArg₂ (fun x z : EReal => Ideal.exp x * z) (hA k) (hG k))
  show acc (F := Ideal) _ _ (Fin.ofNat 8 b.val).succ (c.val % 64) 64
      * Ideal.div (Ideal.ofBits .f32 0x3F800000#32) (acc (F := Ideal) _ _ 0 (c.val % 64) 64) = _
  exact congrArg₂ (fun x z : EReal => x * z) h1 (congrArg₂ Ideal.div Ideal.ofBits_one_f32 h0)

end Cert.Proof.Agg

end
-- ==== Proof.lean ====
/- The proof of the certificate's claims: the kernel's run (Proof/Launch.lean), taken at either float instance for the
   frames; the reference's generated run; and the equality of the two results (Proof/Value.lean). -/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_finite_weights
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem

/-- The kernel as printed runs, its arguments end unchanged and its semaphores at zero. The program has the idealized
    one's text, so this is that run at the bit-exact floats. -/
theorem frame_kernel : Cert.quiescent_Kernel := fun m ρ _ =>
  (θ_run Cert.KernelIdeal.defs _ _).mono (fun _ h => ⟨fun c => (h.1 c).2, h.2⟩) (Agg.run_main (F := Bits) m ρ)

/-- The idealized kernel runs, its arguments end unchanged and its semaphores at zero, whatever its arguments are. -/
theorem frame_ideal (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (Cert.KernelIdeal.threads (F := Ideal)) ⟨m, fun _ => 0, ρ⟩ (fun r =>
      (∀ c : Dev Cert.KernelIdeal.nD, r.2.mem (Agg.gLoc c) = m (Agg.gLoc c) ∧ r.2.mem (Agg.aLoc c) = m (Agg.aLoc c)) ∧ r.2.sem = fun _ => 0) :=
  (θ_run Cert.KernelIdeal.defs _ _).mono (fun _ h => ⟨fun c => (h.1 c).2, h.2⟩) (Agg.run_main (F := Ideal) m ρ)

/-- The reference runs and its arguments end unchanged; it declares no semaphore. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m ρ)

/-- At finite weights the idealized kernel's result is the reference's, element by element: the shared value is the
    kernel's `outR`, which the reference's term equals by `Agg.outV_eq` once its arguments are the kernel's. -/
theorem algebraic : Cert.algebraic_KernelIdeal_ReferenceIdeal_pre_finite_weights := by
  intro m ρ m' ρ' hpre hagree
  refine ⟨fun c => Agg.outR (F := Ideal) m c, (θ_run Cert.KernelIdeal.defs _ _).mono (fun _ h c => h.1 c) (Agg.run_main (F := Ideal) m ρ), ?_⟩
  refine (θ_run Cert.ReferenceIdeal.defs _ _).mono (fun r h c => ⟨(h c).1.trans ?_, (h c).2⟩) (Cert.ReferenceIdeal.Value.run (F := Ideal) m' ρ')
  refine (Agg.Ref.res_eq m' c).trans ((congrArg₂ Agg.Ref.out (hagree c).1 (hagree c).2).trans ?_)
  exact (Agg.outV_eq _ _ (Agg.weights_real _ _ (hpre c))).symm

/-- Every claim of the certificate. -/
theorem claim : Cert.Claim := ⟨Cert.Kernel.Gen.facts, Cert.KernelIdeal.Gen.facts, Cert.ReferenceIdeal.Gen.facts, Cert.Pre_finite_weights.Gen.facts,
  frame_kernel, fun m ρ _ => frame_ideal m ρ, fun m ρ _ => frame_ideal m ρ, fun m ρ _ => frame_reference m ρ,
  fun m ρ _ => frame_reference m ρ, trivial, algebraic⟩

end Cert.Proof

end
